-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x2048x2048 : Shape := ⟨3, ![8, 2048, 2048]⟩
abbrev S8x2048x512 : Shape := ⟨3, ![8, 2048, 512]⟩
abbrev S32 : Shape := ⟨1, ![32]⟩
abbrev S8 : Shape := ⟨1, ![8]⟩
abbrev S8x4 : Shape := ⟨2, ![8, 4]⟩
abbrev S8x1 : Shape := ⟨2, ![8, 1]⟩
abbrev S_ : Shape := ⟨0, ![]⟩
abbrev S8x4x128 : Shape := ⟨3, ![8, 4, 128]⟩
abbrev S8x512 : Shape := ⟨2, ![8, 512]⟩
abbrev S8x1x512 : Shape := ⟨3, ![8, 1, 512]⟩
abbrev S8x1x1 : Shape := ⟨3, ![8, 1, 1]⟩
abbrev S8x512x2048 : Shape := ⟨3, ![8, 512, 2048]⟩
abbrev S1x1x512 : Shape := ⟨3, ![1, 1, 512]⟩
abbrev S1x2048x256 : Shape := ⟨3, ![1, 2048, 256]⟩
abbrev S1x2048x128 : Shape := ⟨3, ![1, 2048, 128]⟩
abbrev S1x128x2048 : Shape := ⟨3, ![1, 128, 2048]⟩
abbrev S2048x64 : Shape := ⟨2, ![2048, 64]⟩
abbrev S2048x512 : Shape := ⟨2, ![2048, 512]⟩
abbrev S1x2048x64 : Shape := ⟨3, ![1, 2048, 64]⟩
abbrev S1x512 : Shape := ⟨2, ![1, 512]⟩
abbrev S128x512 : Shape := ⟨2, ![128, 512]⟩
abbrev S1x128x64 : Shape := ⟨3, ![1, 128, 64]⟩
abbrev S128x64 : Shape := ⟨2, ![128, 64]⟩
abbrev S512x64 : Shape := ⟨2, ![512, 64]⟩
abbrev S16x8x512 : Shape := ⟨3, ![16, 8, 512]⟩
abbrev S512 : Shape := ⟨1, ![512]⟩
abbrev S1x64x128 : Shape := ⟨3, ![1, 64, 128]⟩
abbrev S64x128 : Shape := ⟨2, ![64, 128]⟩
abbrev S64x512 : Shape := ⟨2, ![64, 512]⟩
abbrev S128x128 : Shape := ⟨2, ![128, 128]⟩
abbrev S1x128x128 : Shape := ⟨3, ![1, 128, 128]⟩
abbrev S1x64x256 : Shape := ⟨3, ![1, 64, 256]⟩
abbrev S64x256 : Shape := ⟨2, ![64, 256]⟩
abbrev S256x512 : Shape := ⟨2, ![256, 512]⟩
abbrev S1x64x384 : Shape := ⟨3, ![1, 64, 384]⟩
abbrev S64x384 : Shape := ⟨2, ![64, 384]⟩
abbrev S384x512 : Shape := ⟨2, ![384, 512]⟩
abbrev S1x64x512 : Shape := ⟨3, ![1, 64, 512]⟩
abbrev S512x512 : Shape := ⟨2, ![512, 512]⟩
abbrev S1x64x640 : Shape := ⟨3, ![1, 64, 640]⟩
abbrev S64x640 : Shape := ⟨2, ![64, 640]⟩
abbrev S640x512 : Shape := ⟨2, ![640, 512]⟩
abbrev S1x64x768 : Shape := ⟨3, ![1, 64, 768]⟩
abbrev S64x768 : Shape := ⟨2, ![64, 768]⟩
abbrev S768x512 : Shape := ⟨2, ![768, 512]⟩
abbrev S1x64x896 : Shape := ⟨3, ![1, 64, 896]⟩
abbrev S64x896 : Shape := ⟨2, ![64, 896]⟩
abbrev S896x512 : Shape := ⟨2, ![896, 512]⟩
abbrev S1x64x1024 : Shape := ⟨3, ![1, 64, 1024]⟩
abbrev S64x1024 : Shape := ⟨2, ![64, 1024]⟩
abbrev S1024x512 : Shape := ⟨2, ![1024, 512]⟩
abbrev S1x64x1152 : Shape := ⟨3, ![1, 64, 1152]⟩
abbrev S64x1152 : Shape := ⟨2, ![64, 1152]⟩
abbrev S1152x512 : Shape := ⟨2, ![1152, 512]⟩
abbrev S1x64x1280 : Shape := ⟨3, ![1, 64, 1280]⟩
abbrev S64x1280 : Shape := ⟨2, ![64, 1280]⟩
abbrev S1280x512 : Shape := ⟨2, ![1280, 512]⟩
abbrev S1x64x1408 : Shape := ⟨3, ![1, 64, 1408]⟩
abbrev S64x1408 : Shape := ⟨2, ![64, 1408]⟩
abbrev S1408x512 : Shape := ⟨2, ![1408, 512]⟩
abbrev S1x64x1536 : Shape := ⟨3, ![1, 64, 1536]⟩
abbrev S64x1536 : Shape := ⟨2, ![64, 1536]⟩
abbrev S1536x512 : Shape := ⟨2, ![1536, 512]⟩
abbrev S1x64x1664 : Shape := ⟨3, ![1, 64, 1664]⟩
abbrev S64x1664 : Shape := ⟨2, ![64, 1664]⟩
abbrev S1664x512 : Shape := ⟨2, ![1664, 512]⟩
abbrev S1x64x1792 : Shape := ⟨3, ![1, 64, 1792]⟩
abbrev S64x1792 : Shape := ⟨2, ![64, 1792]⟩
abbrev S1792x512 : Shape := ⟨2, ![1792, 512]⟩
abbrev S1x64x1920 : Shape := ⟨3, ![1, 64, 1920]⟩
abbrev S64x1920 : Shape := ⟨2, ![64, 1920]⟩
abbrev S1920x512 : Shape := ⟨2, ![1920, 512]⟩
abbrev S1x64x2048 : Shape := ⟨3, ![1, 64, 2048]⟩
abbrev S64x2048 : Shape := ⟨2, ![64, 2048]⟩

abbrev nBuf : Space → Nat
  | .hbm => 23
  | .vmem => 15
  | .smem => 0
  | _ => 0

abbrev bufTy : (tb : Table) → Fin (tcTables nBuf tb) → BufTy
  | .hbm, ⟨0, _⟩ => ⟨S8x2048x2048, .fp8e4m3⟩
  | .hbm, ⟨1, _⟩ => ⟨S8x2048x512, .fp8e4m3⟩
  | .hbm, ⟨2, _⟩ => ⟨S8x2048x512, .fp8e4m3⟩
  | .hbm, ⟨3, _⟩ => ⟨S32, .f32⟩
  | .hbm, ⟨4, _⟩ => ⟨S8, .f32⟩
  | .hbm, ⟨5, _⟩ => ⟨S8, .f32⟩
  | .hbm, ⟨6, _⟩ => ⟨S8x4, .f32⟩
  | .hbm, ⟨7, _⟩ => ⟨S8x1, .f32⟩
  | .hbm, ⟨8, _⟩ => ⟨S8x4, .f32⟩
  | .hbm, ⟨9, _⟩ => ⟨S8x4, .f32⟩
  | .hbm, ⟨10, _⟩ => ⟨S_, .f32⟩
  | .hbm, ⟨11, _⟩ => ⟨S8x4, .f32⟩
  | .hbm, ⟨12, _⟩ => ⟨S8x4, .f32⟩
  | .hbm, ⟨13, _⟩ => ⟨S8x4x128, .f32⟩
  | .hbm, ⟨14, _⟩ => ⟨S8x512, .f32⟩
  | .hbm, ⟨15, _⟩ => ⟨S8x1x512, .f32⟩
  | .hbm, ⟨16, _⟩ => ⟨S_, .f32⟩
  | .hbm, ⟨17, _⟩ => ⟨S8, .f32⟩
  | .hbm, ⟨18, _⟩ => ⟨S8, .f32⟩
  | .hbm, ⟨19, _⟩ => ⟨S8x1x1, .f32⟩
  | .hbm, ⟨20, _⟩ => ⟨S8x1x512, .f32⟩
  | .hbm, ⟨21, _⟩ => ⟨S8x512x2048, .fp8e4m3⟩
  | .hbm, ⟨22, _⟩ => ⟨S8x2048x2048, .bf16⟩
  | .local _ .vmem, ⟨0, _⟩ => ⟨S1x1x512, .f32⟩
  | .local _ .vmem, ⟨1, _⟩ => ⟨S1x1x512, .f32⟩
  | .local _ .vmem, ⟨2, _⟩ => ⟨S1x1x512, .f32⟩
  | .local _ .vmem, ⟨3, _⟩ => ⟨S1x1x512, .f32⟩
  | .local _ .vmem, ⟨4, _⟩ => ⟨S1x2048x256, .fp8e4m3⟩
  | .local _ .vmem, ⟨5, _⟩ => ⟨S1x2048x256, .fp8e4m3⟩
  | .local _ .vmem, ⟨6, _⟩ => ⟨S1x2048x128, .fp8e4m3⟩
  | .local _ .vmem, ⟨7, _⟩ => ⟨S1x2048x128, .fp8e4m3⟩
  | .local _ .vmem, ⟨8, _⟩ => ⟨S1x128x2048, .fp8e4m3⟩
  | .local _ .vmem, ⟨9, _⟩ => ⟨S1x128x2048, .fp8e4m3⟩
  | .local _ .vmem, ⟨10, _⟩ => ⟨S1x2048x256, .bf16⟩
  | .local _ .vmem, ⟨11, _⟩ => ⟨S1x2048x256, .bf16⟩
  | .local _ .vmem, ⟨12, _⟩ => ⟨S2048x64, .fp8e4m3⟩
  | .local _ .vmem, ⟨13, _⟩ => ⟨S2048x512, .f32⟩
  | .local _ .vmem, ⟨14, _⟩ => ⟨S2048x512, .fp8e4m3⟩
  | _, _ => ⟨S8x2048x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 8], ![false, false]⟩

def k0_off1 (i : grid0.Coords) : Fin 3 → Nat :=
  let c0_44 : Index := 0#32
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c64_i32 : BitVec 32 := 64#32
  let v85 : BitVec 32 := Scalar.muli v9 c64_i32
  let v86 : Index := Scalar.indexCast v85
  let c0_45 : Index := 0#32
  ![0, v86.toNat, 0]
def k0_off2 (i : grid0.Coords) : Fin 3 → Nat :=
  let c0_109 : Index := 0#32
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c64_i32_108 : BitVec 32 := 64#32
  let v188 : BitVec 32 := Scalar.muli v9 c64_i32_108
  let v189 : Index := Scalar.indexCast v188
  let c0_110 : Index := 0#32
  ![0, v189.toNat, 0]
def k0_off3 (i : grid0.Coords) : Fin 3 → Nat :=
  let c0_190 : Index := 0#32
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c64_i32_189 : BitVec 32 := 64#32
  let v322 : BitVec 32 := Scalar.muli v9 c64_i32_189
  let v323 : Index := Scalar.indexCast v322
  let c0_191 : Index := 0#32
  ![0, v323.toNat, 0]
def k0_off4 (i : grid0.Coords) : Fin 3 → Nat :=
  let c0_288 : Index := 0#32
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c64_i32_287 : BitVec 32 := 64#32
  let v487 : BitVec 32 := Scalar.muli v9 c64_i32_287
  let v488 : Index := Scalar.indexCast v487
  let c0_289 : Index := 0#32
  ![0, v488.toNat, 0]
def k0_off5 (i : grid0.Coords) : Fin 3 → Nat :=
  let c0_403 : Index := 0#32
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c64_i32_402 : BitVec 32 := 64#32
  let v683 : BitVec 32 := Scalar.muli v9 c64_i32_402
  let v684 : Index := Scalar.indexCast v683
  let c0_404 : Index := 0#32
  ![0, v684.toNat, 0]
def k0_off6 (i : grid0.Coords) : Fin 3 → Nat :=
  let c0_535 : Index := 0#32
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c64_i32_534 : BitVec 32 := 64#32
  let v910 : BitVec 32 := Scalar.muli v9 c64_i32_534
  let v911 : Index := Scalar.indexCast v910
  let c0_536 : Index := 0#32
  ![0, v911.toNat, 0]
def k0_off7 (i : grid0.Coords) : Fin 3 → Nat :=
  let c0_684 : Index := 0#32
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c64_i32_683 : BitVec 32 := 64#32
  let v1168 : BitVec 32 := Scalar.muli v9 c64_i32_683
  let v1169 : Index := Scalar.indexCast v1168
  let c0_685 : Index := 0#32
  ![0, v1169.toNat, 0]
def k0_off8 (i : grid0.Coords) : Fin 3 → Nat :=
  let c0_850 : Index := 0#32
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c64_i32_849 : BitVec 32 := 64#32
  let v1457 : BitVec 32 := Scalar.muli v9 c64_i32_849
  let v1458 : Index := Scalar.indexCast v1457
  let c0_851 : Index := 0#32
  ![0, v1458.toNat, 0]
def k0_off9 (i : grid0.Coords) : Fin 3 → Nat :=
  let c0_1033 : Index := 0#32
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c64_i32_1032 : BitVec 32 := 64#32
  let v1777 : BitVec 32 := Scalar.muli v9 c64_i32_1032
  let v1778 : Index := Scalar.indexCast v1777
  let c0_1034 : Index := 0#32
  ![0, v1778.toNat, 0]
def k0_off10 (i : grid0.Coords) : Fin 3 → Nat :=
  let c0_1233 : Index := 0#32
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c64_i32_1232 : BitVec 32 := 64#32
  let v2128 : BitVec 32 := Scalar.muli v9 c64_i32_1232
  let v2129 : Index := Scalar.indexCast v2128
  let c0_1234 : Index := 0#32
  ![0, v2129.toNat, 0]
def k0_off11 (i : grid0.Coords) : Fin 3 → Nat :=
  let c0_1450 : Index := 0#32
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c64_i32_1449 : BitVec 32 := 64#32
  let v2510 : BitVec 32 := Scalar.muli v9 c64_i32_1449
  let v2511 : Index := Scalar.indexCast v2510
  let c0_1451 : Index := 0#32
  ![0, v2511.toNat, 0]
def k0_off12 (i : grid0.Coords) : Fin 3 → Nat :=
  let c0_1684 : Index := 0#32
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c64_i32_1683 : BitVec 32 := 64#32
  let v2923 : BitVec 32 := Scalar.muli v9 c64_i32_1683
  let v2924 : Index := Scalar.indexCast v2923
  let c0_1685 : Index := 0#32
  ![0, v2924.toNat, 0]
def k0_off13 (i : grid0.Coords) : Fin 3 → Nat :=
  let c0_1935 : Index := 0#32
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c64_i32_1934 : BitVec 32 := 64#32
  let v3367 : BitVec 32 := Scalar.muli v9 c64_i32_1934
  let v3368 : Index := Scalar.indexCast v3367
  let c0_1936 : Index := 0#32
  ![0, v3368.toNat, 0]
def k0_off14 (i : grid0.Coords) : Fin 3 → Nat :=
  let c0_2203 : Index := 0#32
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c64_i32_2202 : BitVec 32 := 64#32
  let v3842 : BitVec 32 := Scalar.muli v9 c64_i32_2202
  let v3843 : Index := Scalar.indexCast v3842
  let c0_2204 : Index := 0#32
  ![0, v3843.toNat, 0]
def k0_off15 (i : grid0.Coords) : Fin 3 → Nat :=
  let c0_2488 : Index := 0#32
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c64_i32_2487 : BitVec 32 := 64#32
  let v4348 : BitVec 32 := Scalar.muli v9 c64_i32_2487
  let v4349 : Index := Scalar.indexCast v4348
  let c0_2489 : Index := 0#32
  ![0, v4349.toNat, 0]
def k0_off16 (i : grid0.Coords) : Fin 3 → Nat :=
  let c0_2790 : Index := 0#32
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c64_i32_2789 : BitVec 32 := 64#32
  let v4885 : BitVec 32 := Scalar.muli v9 c64_i32_2789
  let v4886 : Index := Scalar.indexCast v4885
  let c0_2791 : Index := 0#32
  ![0, v4886.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![arg0.toNat, c0_i32_4.toNat, v16.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![arg0.toNat, v16.toNat, c0_i32_4.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x256 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x128 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x2048 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S8x2048x2048 : Shape := ⟨3, ![8, 2048, 2048]⟩
abbrev S8x2048x512 : Shape := ⟨3, ![8, 2048, 512]⟩
abbrev S32 : Shape := ⟨1, ![32]⟩
abbrev S8 : Shape := ⟨1, ![8]⟩
abbrev S8x2048x8x4x64 : Shape := ⟨5, ![8, 2048, 8, 4, 64]⟩
abbrev S8x2048x8x64 : Shape := ⟨4, ![8, 2048, 8, 64]⟩
abbrev S8x4 : Shape := ⟨2, ![8, 4]⟩
abbrev S8x1 : Shape := ⟨2, ![8, 1]⟩
abbrev S1x2048 : Shape := ⟨2, ![1, 2048]⟩
abbrev S2048 : Shape := ⟨1, ![2048]⟩
abbrev S8x8x2048x2048x4 : Shape := ⟨5, ![8, 8, 2048, 2048, 4]⟩
abbrev S8x8x4x2048x2048 : Shape := ⟨5, ![8, 8, 4, 2048, 2048]⟩
abbrev S1x8x4x1x1 : Shape := ⟨5, ![1, 8, 4, 1, 1]⟩
abbrev S2048x1 : Shape := ⟨2, ![2048, 1]⟩
abbrev S2048x2048 : Shape := ⟨2, ![2048, 2048]⟩
abbrev S1x1x1x2048x2048 : Shape := ⟨5, ![1, 1, 1, 2048, 2048]⟩
abbrev S8x8x4x2048 : Shape := ⟨4, ![8, 8, 4, 2048]⟩
abbrev S8x8x4x2048x1 : Shape := ⟨5, ![8, 8, 4, 2048, 1]⟩
abbrev S8x8x64x4x2048 : Shape := ⟨5, ![8, 8, 64, 4, 2048]⟩
abbrev S1x1x8x1x1 : Shape := ⟨5, ![1, 1, 8, 1, 1]⟩

abbrev nBuf : Space → Nat
  | .hbm => 7
  | .vmem => 7
  | .smem => 0
  | _ => 0

abbrev bufTy : (tb : Table) → Fin (tcTables nBuf tb) → BufTy
  | .hbm, ⟨0, _⟩ => ⟨S8x2048x2048, .fp8e4m3⟩
  | .hbm, ⟨1, _⟩ => ⟨S8x2048x512, .fp8e4m3⟩
  | .hbm, ⟨2, _⟩ => ⟨S8x2048x512, .fp8e4m3⟩
  | .hbm, ⟨3, _⟩ => ⟨S32, .f32⟩
  | .hbm, ⟨4, _⟩ => ⟨S8, .f32⟩
  | .hbm, ⟨5, _⟩ => ⟨S8, .f32⟩
  | .hbm, ⟨6, _⟩ => ⟨S8x2048x2048, .bf16⟩
  | .local _ .vmem, ⟨0, _⟩ => ⟨S8x2048x2048, .fp8e4m3⟩
  | .local _ .vmem, ⟨1, _⟩ => ⟨S8x2048x512, .fp8e4m3⟩
  | .local _ .vmem, ⟨2, _⟩ => ⟨S8x2048x512, .fp8e4m3⟩
  | .local _ .vmem, ⟨3, _⟩ => ⟨S32, .f32⟩
  | .local _ .vmem, ⟨4, _⟩ => ⟨S8, .f32⟩
  | .local _ .vmem, ⟨5, _⟩ => ⟨S8, .f32⟩
  | .local _ .vmem, ⟨6, _⟩ => ⟨S8x2048x2048, .bf16⟩
  | _, _ => ⟨S8x2048x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S8x2048x2048 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x2048x512 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x2048x512 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x2048x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Math.lean ====
/- The mathematics of one row of the attention, over the extended reals; no program here.

   A row has unscaled scores `a`, a scale `c`, a last visible key `q` and values `v`. The reference takes the exponential of the
   scores less their maximum over all `N` keys; the kernel looks at the first `n` keys only, scales the scores by `log2 e` too and
   takes powers of two. -/
module

public import Idealize.ShloMosaic.PureOps.Ideal.Laws

@[expose] public section

noncomputable section

namespace Cert.Attn

open Idealize.ShloMosaic Finset

/-- Clipped to ±448. -/
def clip (x : EReal) : EReal := min ((448 : ℝ) : EReal) (max ((-448 : ℝ) : EReal) x)

/-- The scaled score of key `k`, −∞ past the diagonal. -/
def sc (a : ℕ → EReal) (c : EReal) (q k : ℕ) : EReal := if k ≤ q then a k * c else ⊥

/-- The largest of the first `n` scores. -/
def top (s : ℕ → EReal) (n : ℕ) : EReal := (range n).sup s

/-- The reference's exponentials, their sum, and its codes. -/
def rE (s : ℕ → EReal) (n k : ℕ) : EReal := Ideal.exp (s k - top s n)
def rL (s : ℕ → EReal) (n : ℕ) : EReal := ∑ k ∈ range n, rE s n k
def rCode (s : ℕ → EReal) (n k : ℕ) : EReal := clip (max (Ideal.div (rE s n k) (rL s n)) 0 * ((256 : ℝ) : EReal))

/-- The kernel's powers of two, their sum, and its codes. -/
def kE (s : ℕ → EReal) (n k : ℕ) : EReal := Ideal.exp2 (s k - top s n)
def kL (s : ℕ → EReal) (n : ℕ) : EReal := ∑ k ∈ range n, kE s n k
def kCode (s : ℕ → EReal) (n k : ℕ) : EReal := clip (kE s n k * Ideal.div ((256 : ℝ) : EReal) (kL s n))

/-- `log2 e`. -/
def lg : ℝ := (Real.log 2)⁻¹

theorem lg_pos : 0 < lg := inv_pos.mpr (Real.log_pos (by norm_num))

theorem clip_zero : clip 0 = 0 := by
  unfold clip
  rw [max_eq_right (by rw [← EReal.coe_zero]; exact EReal.coe_le_coe_iff.mpr (by norm_num)),
    min_eq_right (by rw [← EReal.coe_zero]; exact EReal.coe_le_coe_iff.mpr (by norm_num))]

theorem sc_scale (a : ℕ → EReal) (c : EReal) (q k : ℕ) : sc a (c * (lg : EReal)) q k = sc a c q k * (lg : EReal) := by
  unfold sc
  split
  · rw [mul_assoc]
  · rw [EReal.bot_mul_coe_of_pos lg_pos]

theorem top_scale (s : ℕ → EReal) (n : ℕ) : top (fun k => s k * (lg : EReal)) n = top s n * (lg : EReal) := by
  unfold top
  have hm : Monotone fun x : EReal => x * (lg : EReal) := fun x y h =>
    mul_le_mul_of_nonneg_right h (EReal.coe_nonneg.mpr lg_pos.le)
  exact (Finset.comp_sup_eq_sup_comp (fun x : EReal => x * (lg : EReal)) (fun x y => hm.map_sup x y)
    (EReal.bot_mul_coe_of_pos lg_pos)).symm

/-- Keys past the diagonal do not move the maximum. -/
theorem top_trim (a : ℕ → EReal) (c : EReal) (q n N : ℕ) (h1 : q < n) (h2 : n ≤ N) : top (sc a c q) N = top (sc a c q) n := by
  unfold top
  refine le_antisymm (Finset.sup_le fun k _ => ?_) (Finset.sup_mono (range_subset_range.mpr h2))
  by_cases hk : k < n
  · exact Finset.le_sup (mem_range.mpr hk)
  · unfold sc; rw [if_neg (by omega)]; exact bot_le

theorem sub_scale (x y : EReal) : x * (lg : EReal) - y * (lg : EReal) = (x - y) * (lg : EReal) := by
  induction x using EReal.rec <;> induction y using EReal.rec <;>
    simp only [EReal.bot_mul_coe_of_pos lg_pos, EReal.top_mul_coe_of_pos lg_pos, EReal.bot_sub, EReal.top_sub_coe, EReal.coe_sub_bot,
      ← EReal.coe_mul, EReal.sub_top, EReal.top_sub_bot]
  rw [← EReal.coe_sub, ← EReal.coe_sub, ← EReal.coe_mul]
  congr 1; ring

theorem exp2_scale (x : EReal) : Ideal.exp2 (x * (lg : EReal)) = Ideal.exp x := by
  induction x using EReal.rec with
  | bot => rw [EReal.bot_mul_coe_of_pos lg_pos]; rfl
  | top => rw [EReal.top_mul_coe_of_pos lg_pos]; rfl
  | coe r =>
    rw [← EReal.coe_mul]
    show ((Real.rpow 2 (r * lg) : ℝ) : EReal) = ((Real.exp r : ℝ) : EReal)
    congr 1
    show (2 : ℝ) ^ (r * lg) = _
    rw [Real.rpow_def_of_pos (by norm_num)]
    congr 1
    unfold lg
    have : Real.log 2 ≠ 0 := (Real.log_pos (by norm_num)).ne'
    field_simp

theorem kE_eq (a : ℕ → EReal) (c : EReal) (q n k : ℕ) : kE (sc a (c * (lg : EReal)) q) n k = rE (sc a c q) n k := by
  have h : sc a (c * (lg : EReal)) q = fun k => sc a c q k * (lg : EReal) := funext fun k => sc_scale a c q k
  unfold kE rE
  rw [h, top_scale, sub_scale, exp2_scale]

theorem exp_nonpos (x : EReal) (h : x ≤ 0) : ∃ r : ℝ, 0 ≤ r ∧ Ideal.exp x = (r : EReal) := by
  induction x using EReal.rec with
  | bot => exact ⟨0, le_rfl, rfl⟩
  | top => exact absurd h (by simp)
  | coe r => exact ⟨Real.exp r, (Real.exp_pos r).le, rfl⟩

theorem sub_le_zero (x y : EReal) (h : x ≤ y) : x - y ≤ 0 := by
  induction x using EReal.rec <;> induction y using EReal.rec <;> simp_all [← EReal.coe_sub]

/-- A row's exponentials are nonnegative reals. -/
theorem rE_real (s : ℕ → EReal) (n k : ℕ) (hk : k < n) : ∃ r : ℝ, 0 ≤ r ∧ rE s n k = (r : EReal) :=
  exp_nonpos _ (sub_le_zero _ _ (Finset.le_sup (mem_range.mpr hk)))

theorem rE_masked (a : ℕ → EReal) (c : EReal) (q n k : ℕ) (h : q < k) : rE (sc a c q) n k = 0 := by
  unfold rE sc
  rw [if_neg (by omega), EReal.bot_sub]; rfl

theorem rE_trim (a : ℕ → EReal) (c : EReal) (q n N k : ℕ) (h1 : q < n) (h2 : n ≤ N) : rE (sc a c q) N k = rE (sc a c q) n k := by
  unfold rE; rw [top_trim a c q n N h1 h2]

theorem rL_trim (a : ℕ → EReal) (c : EReal) (q n N : ℕ) (h1 : q < n) (h2 : n ≤ N) : rL (sc a c q) N = rL (sc a c q) n := by
  unfold rL
  rw [Finset.sum_congr rfl fun k _ => rE_trim a c q n N k h1 h2]
  refine (Finset.sum_subset (range_subset_range.mpr h2) fun k _ hk => ?_).symm
  exact rE_masked a c q n k (by have := mem_range.not.mp hk; omega)

theorem coe_sum' (n : ℕ) (f : ℕ → ℝ) : ((∑ k ∈ range n, f k : ℝ) : EReal) = ∑ k ∈ range n, (f k : EReal) := by
  induction n with
  | zero => simp
  | succ n ih => rw [sum_range_succ, sum_range_succ, EReal.coe_add, ih]

/-- A code computed from `e / l` or from `256 / l`. -/
theorem code_real (e l : ℝ) (he : 0 ≤ e) (hl : 0 ≤ l) (h0 : l = 0 → e = 0) :
    clip (max (Ideal.div (e : EReal) (l : EReal)) 0 * ((256 : ℝ) : EReal)) = clip ((e : EReal) * Ideal.div ((256 : ℝ) : EReal) (l : EReal)) := by
  congr 1
  by_cases h : l = 0
  · rw [h, h0 h]
    have h1 : Ideal.div ((0 : ℝ) : EReal) ((0 : ℝ) : EReal) = ⊥ := by simp [Ideal.div]
    rw [h1, max_eq_right bot_le, EReal.coe_zero, zero_mul, zero_mul]
  · have hne : (l : EReal) ≠ 0 := by rw [← EReal.coe_zero]; exact fun h' => h (EReal.coe_eq_coe_iff.mp h')
    unfold Ideal.div
    rw [if_neg hne, if_neg hne, ← EReal.coe_inv, ← EReal.coe_mul, ← EReal.coe_mul, ← EReal.coe_mul, max_eq_left, ← EReal.coe_mul]
    · congr 1; ring
    · rw [← EReal.coe_zero, EReal.coe_le_coe_iff]; exact mul_nonneg he (inv_nonneg.mpr hl)

/-- The kernel's code of a key it looks at is the reference's. -/
theorem kCode_eq (a : ℕ → EReal) (c : EReal) (q n N k : ℕ) (h1 : q < n) (h2 : n ≤ N) (hk : k < n) :
    kCode (sc a (c * (lg : EReal)) q) n k = rCode (sc a c q) N k := by
  have hL : kL (sc a (c * (lg : EReal)) q) n = rL (sc a c q) n := by
    unfold kL rL; exact Finset.sum_congr rfl fun k _ => kE_eq a c q n k
  unfold kCode rCode
  rw [hL, kE_eq, rL_trim a c q n N h1 h2, rE_trim a c q n N k h1 h2]
  have hr : ∀ i, ∃ r : ℝ, 0 ≤ r ∧ (i < n → rE (sc a c q) n i = (r : EReal)) := fun i => by
    by_cases hi : i < n
    · obtain ⟨r, h0, h⟩ := rE_real (sc a c q) n i hi; exact ⟨r, h0, fun _ => h⟩
    · exact ⟨0, le_rfl, fun h => absurd h hi⟩
  choose e he heq using hr
  have hl : rL (sc a c q) n = ((∑ i ∈ range n, e i : ℝ) : EReal) := by
    rw [coe_sum']; unfold rL; exact Finset.sum_congr rfl fun i hi => heq i (mem_range.mp hi)
  rw [hl, heq k hk]
  refine (code_real _ _ (he k) (Finset.sum_nonneg fun i _ => he i) fun h => ?_).symm
  exact (Finset.sum_eq_zero_iff_of_nonneg fun i _ => he i).mp h k (mem_range.mpr hk)

/-- A key past the diagonal has code zero. -/
theorem rCode_masked (a : ℕ → EReal) (c : EReal) (q N k : ℕ) (h : q < k) (hN : k < N) : rCode (sc a c q) N k = 0 := by
  have hq : q < k + 1 := by omega
  rw [← kCode_eq a c q (k + 1) N k hq (by omega) (by omega)]
  unfold kCode
  rw [kE_eq, rE_masked a c q _ k h, zero_mul, clip_zero]

/-- Where a row's sum is not zero, a probability is not negative: the reference's maximum with 0 changes nothing there. -/
theorem max_prob (s : ℕ → EReal) (n k : ℕ) (hk : k < n) (h0 : rL s n ≠ 0) :
    max (Ideal.div (rE s n k) (rL s n)) 0 = Ideal.div (rE s n k) (rL s n) := by
  have hE : ∀ i < n, 0 ≤ rE s n i := fun i hi => by
    obtain ⟨r, h, e⟩ := rE_real s n i hi
    rw [e]; exact EReal.coe_nonneg.mpr h
  refine max_eq_left ?_
  unfold Ideal.div
  rw [if_neg h0]
  exact mul_nonneg (hE k hk) (EReal.inv_nonneg_of_nonneg (Finset.sum_nonneg fun i hi => hE i (mem_range.mp hi)))

/-- The row's weighted sum: the kernel's over the first `n` keys is the reference's over all. -/
theorem row_eq (a : ℕ → EReal) (c : EReal) (v : ℕ → EReal) (q n N : ℕ) (h1 : q < n) (h2 : n ≤ N) :
    ∑ k ∈ range n, v k * kCode (sc a (c * (lg : EReal)) q) n k = ∑ k ∈ range N, v k * rCode (sc a c q) N k := by
  rw [Finset.sum_congr rfl fun k hk => by rw [kCode_eq a c q n N k h1 h2 (mem_range.mp hk)]]
  refine Finset.sum_subset (range_subset_range.mpr h2) fun k hk hk' => ?_
  rw [rCode_masked a c q N k (by have := mem_range.not.mp hk'; omega) (mem_range.mp hk), mul_zero]

/-- A sum over `n` groups of `b`. -/
theorem sum_groups (g : ℕ → EReal) (b n : ℕ) : ∑ u ∈ range n, ∑ r ∈ range b, g (b * u + r) = ∑ i ∈ range (b * n), g i := by
  induction n with
  | zero => simp
  | succ n ih => rw [sum_range_succ, ih, Nat.mul_succ, sum_range_add]

end Cert.Attn
-- ==== Proof.Consts.lean ====
/- The float constants of the two programs as extended reals. -/
module

public import Idealize.ShloMosaic.Lib.Pointwise

@[expose] public section

namespace Cert.Attn

open Idealize.ShloMosaic

theorem c448 : Ideal.ofBits .f32 0x43E00000#32 = ((448 : ℝ) : EReal) := by simp [Ideal.ofBits, Ideal.ieee]; norm_num; rw [← EReal.coe_mul]; norm_num
theorem cm448 : Ideal.ofBits .f32 0xC3E00000#32 = ((-448 : ℝ) : EReal) := by simp [Ideal.ofBits, Ideal.ieee]; norm_num; rw [← EReal.coe_mul]; norm_num
theorem c256 : Ideal.ofBits .f32 0x43800000#32 = ((256 : ℝ) : EReal) := by simp [Ideal.ofBits, Ideal.ieee]; norm_num; rw [← EReal.coe_mul]; norm_num
theorem cbot : Ideal.ofBits .f32 0xFF800000#32 = (⊥ : EReal) := by simp [Ideal.ofBits, Ideal.ieee]

end Cert.Attn
-- ==== Proof.Spec.lean ====
/- The attention's result at an index, as the reference's mathematics; and reading maxima, sums and masks in its words. -/
module

public import proofs.«01_k».proof.Proof.Math
public import proofs.«01_k».proof.Proof.Consts

@[expose] public section

noncomputable section

namespace Cert.Attn

open Idealize.ShloMosaic Finset

/-- The queries' (and the result's) shape, the keys' and values', and those of the scales. -/
abbrev TQ : Shape := ⟨3, ![8, 2048, 2048]⟩
abbrev TK : Shape := ⟨3, ![8, 2048, 512]⟩
abbrev T32 : Shape := ⟨1, ![32]⟩
abbrev T8 : Shape := ⟨1, ![8]⟩

/-- A key's position. -/
def pos (k : ℕ) : Fin 2048 := ⟨k % 2048, Nat.mod_lt _ (by decide)⟩

theorem pos_val (k : Fin 2048) : pos k.val = k := Fin.ext (Nat.mod_eq_of_lt k.isLt)

/-- Query `q` of head `h` of group `g` against key `k`. -/
def rowA (a0 : TQ.Idx → EReal) (a1 : TK.Idx → EReal) (b g : Fin 8) (h : Fin 4) (q : Fin 2048) (k : ℕ) : EReal :=
  ∑ x : Fin 64, a1 (ix3 b (pos k) ⟨g.val * 64 + x.val, by omega⟩) * a0 (ix3 b q ⟨g.val * 256 + h.val * 64 + x.val, by omega⟩)

/-- The scale of a head's scores. -/
def rowC (a3 : T32.Idx → EReal) (a4 : T8.Idx → EReal) (g : Fin 8) (h : Fin 4) : EReal :=
  a3 (ix1 ⟨g.val * 4 + h.val, by omega⟩) * a4 (ix1 g) * Ideal.ofBits .f32 0x3E000000#32

/-- Lane `d` of key `k`'s value. -/
def rowV (a2 : TK.Idx → EReal) (b g : Fin 8) (d : Fin 64) (k : ℕ) : EReal := a2 (ix3 b (pos k) ⟨g.val * 64 + d.val, by omega⟩)

/-- The result of batch `b`, query `q`, group `g`, head `h`, lane `d`. -/
def attn (a0 : TQ.Idx → EReal) (a1 a2 : TK.Idx → EReal) (a3 : T32.Idx → EReal) (a4 a5 : T8.Idx → EReal)
    (b : Fin 8) (q : Fin 2048) (g : Fin 8) (h : Fin 4) (d : Fin 64) : EReal :=
  (∑ k ∈ range 2048, rowV a2 b g d k * rCode (sc (rowA a0 a1 b g h q) (rowC a3 a4 g h) q.val) 2048 k)
    * (Ideal.ofBits .f32 0x3B800000#32 * a5 (ix1 g))

/-- A fold of `max` from −∞ over `Fin n` is the largest. -/
theorem fold_top (n : ℕ) (s : ℕ → EReal) : (univ.fold max ⊥ fun k : Fin n => s k.val) = top s n := by
  show univ.sup (fun k : Fin n => s k.val) = (range n).sup s
  refine le_antisymm (Finset.sup_le fun k _ => Finset.le_sup (f := s) (mem_range.mpr k.isLt)) (Finset.sup_le fun k hk => ?_)
  exact Finset.le_sup (f := fun k : Fin n => s k.val) (mem_univ (⟨k, mem_range.mp hk⟩ : Fin n))

/-- A mask of positions below 2048. -/
theorem select_sle (k q : ℕ) (hk : k < 2048) (hq : q < 2048) (x y : EReal) :
    Scalar.select (IntOp.cmpi .sle (BitVec.ofNat 32 k) (BitVec.ofNat 32 q)) x y = if k ≤ q then x else y := by
  have e : IntOp.cmpi .sle (BitVec.ofNat 32 k) (BitVec.ofNat 32 q) = BitVec.ofBool (decide (k ≤ q)) := by
    have hk' : (BitVec.ofNat 32 k).toInt = (k : ℤ) := by
      rw [BitVec.toInt_eq_toNat_of_lt (by rw [BitVec.toNat_ofNat]; omega), BitVec.toNat_ofNat, Nat.mod_eq_of_lt (by omega)]
    have hq' : (BitVec.ofNat 32 q).toInt = (q : ℤ) := by
      rw [BitVec.toInt_eq_toNat_of_lt (by rw [BitVec.toNat_ofNat]; omega), BitVec.toNat_ofNat, Nat.mod_eq_of_lt (by omega)]
    unfold IntOp.cmpi
    congr 1
    simp only [BitVec.sle, hk', hq']
    simp
  rw [e]
  by_cases h : k ≤ q <;> simp [Scalar.select, h]

end Cert.Attn
-- ==== Proof.RefScores.lean ====
/- The reference's scores at an index. -/
module

public import proofs.«01_k».proof.Proof.Consts
public import proofs.«01_k».proof.Proof.Gen.ReferenceIdeal.Value

@[expose] public section

noncomputable section

namespace Cert.ReferenceIdeal.Row

open Cert.ReferenceIdeal Cert.ReferenceIdeal.Gen Cert.ReferenceIdeal.Value Idealize.ShloMosaic Cert.Attn

variable {F : FTy → Type} [FloatOps F]

/-- The products of queries and keys. -/
def prodR (v0 : Vec F S8x2048x2048 .fp8e4m3) (v2 : Vec F S8x2048x512 .fp8e4m3) : FVec F S8x8x4x2048x2048 .f32 :=
  transpose S8x8x4x2048x2048 [0, 1, 4, 3, 2]
    (matmul dot_S8x2048x8x64_S8x2048x8x4x64_S8x8x2048x2048x4_3_4_1_13_02_02 none
      (shapeCast S8x2048x8x64 v2 shapeCasts_S8x2048x512_S8x2048x8x64)
      (shapeCast S8x2048x8x4x64 v0 shapeCasts_S8x2048x2048_S8x2048x8x4x64)
      (constant S8x8x2048x2048x4 .f32 0x00000000#32))
    transposes_S8x8x2048x2048x4_p0_1_4_3_2_S8x8x4x2048x2048

/-- The scales of the scores. -/
def scaleR (v6 : Vec F S32 .f32) (v8 : Vec F S8 .f32) : FVec F S8x4 .f32 :=
  mulf (mulf (shapeCast S8x4 v6 shapeCasts_S32_S8x4) (broadcastTo S8x4 (shapeCast S8x1 v8 shapeCasts_S8_S8x1) broadcasts_S8x1_S8x4))
    (broadcast S8x4 (Scalar.ofBits .f32 0x3E000000#32))

/-- Key at most query. -/
def maskR : IVec S2048x2048 1 :=
  cmpi .sle
    (broadcastTo S2048x2048 (shapeCast S1x2048 (shapeCast S2048 (iota .tc S1x2048 32 [1] iota_S1x2048_d1_w32) shapeCasts_S1x2048_S2048) shapeCasts_S2048_S1x2048) broadcasts_S1x2048_S2048x2048)
    (broadcastTo S2048x2048 (shapeCast S2048x1 (shapeCast S2048 (iota .tc S1x2048 32 [1] iota_S1x2048_d1_w32) shapeCasts_S1x2048_S2048) shapeCasts_S2048_S2048x1) broadcasts_S2048x1_S2048x2048)

/-- The masked scaled scores. -/
def scoreR (p : FVec F S8x8x4x2048x2048 .f32) (c : FVec F S8x4 .f32) (mk : IVec S2048x2048 1) : FVec F S8x8x4x2048x2048 .f32 :=
  select (broadcastTo S8x8x4x2048x2048 (shapeCast S1x1x1x2048x2048 mk shapeCasts_S2048x2048_S1x1x1x2048x2048) broadcasts_S1x1x1x2048x2048_S8x8x4x2048x2048)
    (mulf p (broadcastTo S8x8x4x2048x2048 (shapeCast S1x8x4x1x1 c shapeCasts_S8x4_S1x8x4x1x1) broadcasts_S1x8x4x1x1_S8x8x4x2048x2048))
    (broadcast S8x8x4x2048x2048 (Scalar.ofBits .f32 0xFF800000#32))

theorem prodR_apply (a0 : Vec Ideal S8x2048x2048 .fp8e4m3) (a1 : Vec Ideal S8x2048x512 .fp8e4m3) (b g : Fin 8) (h : Fin 4) (q k : Fin 2048) :
    prodR a0 a1 (ix5 b g h q k) = ∑ x : Fin 64, a1 (ix3 b k ⟨g.val * 64 + x.val, by omega⟩) * a0 (ix3 b q ⟨g.val * 256 + h.val * 64 + x.val, by omega⟩) := by
  pointwise [prodR]

theorem scaleR_apply (a3 : Vec Ideal S32 .f32) (a4 : Vec Ideal S8 .f32) (g : Fin 8) (h : Fin 4) :
    scaleR a3 a4 (ix2 g h) = a3 (ix1 ⟨g.val * 4 + h.val, by omega⟩) * a4 (ix1 g) * Ideal.ofBits .f32 0x3E000000#32 := by
  pointwise [scaleR]

theorem maskR_apply (q k : Fin 2048) : maskR (ix2 q k) = IntOp.cmpi .sle (BitVec.ofNat 32 k.val) (BitVec.ofNat 32 q.val) := by
  pointwise [maskR]

theorem scoreR_apply (p : FVec Ideal S8x8x4x2048x2048 .f32) (c : FVec Ideal S8x4 .f32) (mk : IVec S2048x2048 1) (b g : Fin 8) (h : Fin 4) (q k : Fin 2048) :
    scoreR p c mk (ix5 b g h q k) = Scalar.select (mk (ix2 q k)) (p (ix5 b g h q k) * c (ix2 g h)) (Ideal.ofBits .f32 0xFF800000#32) := by
  pointwise [scoreR]

end Cert.ReferenceIdeal.Row
-- ==== Proof.RefSoftmax.lean ====
/- The reference's softmax and result at an index. -/
module

public import proofs.«01_k».proof.Proof.RefScores

@[expose] public section

noncomputable section

namespace Cert.ReferenceIdeal.Row

open Cert.ReferenceIdeal Cert.ReferenceIdeal.Gen Cert.ReferenceIdeal.Value Idealize.ShloMosaic Cert.Attn

variable {F : FTy → Type} [FloatOps F]

/-- A row's maximum. -/
def maxR (s : FVec F S8x8x4x2048x2048 .f32) : FVec F S8x8x4x2048 .f32 :=
  maximumf (broadcast S8x8x4x2048 (Scalar.ofBits .f32 0xFF800000#32))
    (multiReduction .maximumf [4] S8x8x4x2048 s 0xFF800000#32 reduces_S8x8x4x2048x2048_S8x8x4x2048 (.inl rfl) rfl)

/-- A number per row, one copy per key. -/
def spreadR (m : FVec F S8x8x4x2048 .f32) : FVec F S8x8x4x2048x2048 .f32 :=
  broadcastTo S8x8x4x2048x2048 (shapeCast S8x8x4x2048x1 m shapeCasts_S8x8x4x2048_S8x8x4x2048x1) broadcasts_S8x8x4x2048x1_S8x8x4x2048x2048

/-- The exponentials. -/
def expR (s : FVec F S8x8x4x2048x2048 .f32) : FVec F S8x8x4x2048x2048 .f32 := exp (subf s (spreadR (maxR s)))

/-- A row's sum. -/
def sumR (e : FVec F S8x8x4x2048x2048 .f32) : FVec F S8x8x4x2048 .f32 :=
  multiReduction .add [4] S8x8x4x2048 e 0x00000000#32 reduces_S8x8x4x2048x2048_S8x8x4x2048 (.inl rfl) rfl

theorem pay3_eq (v0 : Vec F S8x2048x2048 .fp8e4m3) (v2 : Vec F S8x2048x512 .fp8e4m3) (v6 : Vec F S32 .f32) (v8 : Vec F S8 .f32) :
    k0_pay3 v0 v2 v6 v8 = divf (expR (scoreR (prodR v0 v2) (scaleR v6 v8) maskR)) (spreadR (sumR (expR (scoreR (prodR v0 v2) (scaleR v6 v8) maskR)))) := rfl

/-- A maximum along the last of five axes, at any extents. -/
theorem max5 {n0 n1 n2 n3 n4 : ℕ} (s : FVec Ideal (⟨5, ![n0, n1, n2, n3, n4]⟩ : Shape) .f32) (acc : BitVec FTy.f32.bits)
    (h : (⟨5, ![n0, n1, n2, n3, n4]⟩ : Shape).Reduces [4] ⟨4, ![n0, n1, n2, n3]⟩) (hφ : FKind.Formats .f32)
    (hacc : acc = FKind.maximumf.neutral .f32 hφ) (a : Fin n0) (b : Fin n1) (c : Fin n2) (d : Fin n3) :
    multiReduction .maximumf [4] ⟨4, ![n0, n1, n2, n3]⟩ s acc h hφ hacc (ix4 a b c d)
      = Finset.univ.fold max (Ideal.ofBits .f32 acc) fun k : Fin n4 => s (ix5 a b c d k) := by
  rw [multiReduction_maximumf_eq_fold, Shape.Reduces.fold_fiber_r5_a4]
  rfl

theorem maxR_apply (s : FVec Ideal S8x8x4x2048x2048 .f32) (b g : Fin 8) (h : Fin 4) (q : Fin 2048) :
    maxR s (ix4 b g h q) = max (Ideal.ofBits .f32 0xFF800000#32)
      (Finset.univ.fold max (Ideal.ofBits .f32 0xFF800000#32) fun k : Fin 2048 => s (ix5 b g h q k)) := by
  unfold maxR
  rw [maximumf_apply]
  exact congrArg (max (Ideal.ofBits .f32 0xFF800000#32)) (max5 s _ _ _ _ b g h q)

theorem spreadR_apply (m : FVec Ideal S8x8x4x2048 .f32) (b g : Fin 8) (h : Fin 4) (q k : Fin 2048) :
    spreadR m (ix5 b g h q k) = m (ix4 b g h q) := by
  pointwise [spreadR]

theorem sumR_apply (e : FVec Ideal S8x8x4x2048x2048 .f32) (b g : Fin 8) (h : Fin 4) (q : Fin 2048) :
    sumR e (ix4 b g h q) = ∑ k : Fin 2048, e (ix5 b g h q k) := by
  pointwise [sumR]

theorem pay1_apply (p : FVec Ideal S8x8x4x2048x2048 .f32) (a2 : Vec Ideal S8x2048x512 .fp8e4m3) (a5 : Vec Ideal S8 .f32) (b : Fin 8) (q c : Fin 2048) :
    k0_pay1 (k0_pay2 a2) p (k0_pay4 (F := Ideal)) a5 (ix3 b q c)
      = (∑ k : Fin 2048, a2 (ix3 b k ⟨c.val / 256 * 64 + c.val % 64, by omega⟩) *
          min (Ideal.ofBits .f32 0x43E00000#32) (max (Ideal.ofBits .f32 0xC3E00000#32)
            (max (p (ix5 b ⟨c.val / 256, by omega⟩ ⟨c.val / 64 % 4, by omega⟩ q k)) 0 * Ideal.ofBits .f32 0x43800000#32)))
        * (Ideal.ofBits .f32 0x3B800000#32 * a5 (ix1 ⟨c.val / 256, by omega⟩)) := by
  pointwise [k0_pay1, k0_pay2, k0_pay4]

end Cert.ReferenceIdeal.Row
-- ==== Proof.RefValue.lean ====
/- The reference computes the attention. -/
module

public import proofs.«01_k».proof.Proof.Spec
public import proofs.«01_k».proof.Proof.RefSoftmax

@[expose] public section

noncomputable section

namespace Cert.ReferenceIdeal.Row

open Cert.ReferenceIdeal Cert.ReferenceIdeal.Gen Cert.ReferenceIdeal.Value Idealize.ShloMosaic Cert.Attn

/-- The scores. -/
theorem score_apply (a0 : Vec Ideal S8x2048x2048 .fp8e4m3) (a1 : Vec Ideal S8x2048x512 .fp8e4m3) (a3 : Vec Ideal S32 .f32) (a4 : Vec Ideal S8 .f32)
    (b g : Fin 8) (h : Fin 4) (q k : Fin 2048) :
    scoreR (prodR a0 a1) (scaleR a3 a4) maskR (ix5 b g h q k) = sc (rowA a0 a1 b g h q) (rowC a3 a4 g h) q.val k.val := by
  rw [scoreR_apply, maskR_apply, select_sle _ _ k.isLt q.isLt, prodR_apply, scaleR_apply, cbot]
  unfold sc rowA rowC
  rw [pos_val]

/-- A row's exponentials. -/
theorem exp_apply (s : FVec Ideal S8x8x4x2048x2048 .f32) (f : ℕ → EReal) (b g : Fin 8) (h : Fin 4) (q : Fin 2048)
    (hs : ∀ k : Fin 2048, s (ix5 b g h q k) = f k.val) (k : Fin 2048) : expR s (ix5 b g h q k) = rE f 2048 k.val := by
  have hm : maxR s (ix4 b g h q) = top f 2048 := by
    rw [maxR_apply, cbot, max_eq_right bot_le, ← fold_top]
    exact congrArg (fun F => Finset.univ.fold max ⊥ F) (funext hs)
  unfold expR rE
  rw [← hs k, ← hm, ← spreadR_apply (maxR s) b g h q k]
  rfl

/-- A row's sum. -/
theorem sum_apply (s : FVec Ideal S8x8x4x2048x2048 .f32) (f : ℕ → EReal) (b g : Fin 8) (h : Fin 4) (q : Fin 2048)
    (hs : ∀ k : Fin 2048, s (ix5 b g h q k) = f k.val) : sumR (expR s) (ix4 b g h q) = rL f 2048 := by
  rw [sumR_apply]
  unfold rL
  rw [Finset.sum_range]
  exact Finset.sum_congr rfl fun k _ => exp_apply s f b g h q hs k

/-- The probabilities. -/
theorem prob_apply (a0 : Vec Ideal S8x2048x2048 .fp8e4m3) (a1 : Vec Ideal S8x2048x512 .fp8e4m3) (a3 : Vec Ideal S32 .f32) (a4 : Vec Ideal S8 .f32)
    (b g : Fin 8) (h : Fin 4) (q k : Fin 2048) :
    k0_pay3 a0 a1 a3 a4 (ix5 b g h q k)
      = Ideal.div (rE (sc (rowA a0 a1 b g h q) (rowC a3 a4 g h) q.val) 2048 k.val) (rL (sc (rowA a0 a1 b g h q) (rowC a3 a4 g h) q.val) 2048) := by
  rw [pay3_eq, ← exp_apply _ _ b g h q (score_apply a0 a1 a3 a4 b g h q) k, ← sum_apply _ _ b g h q (score_apply a0 a1 a3 a4 b g h q)]
  exact congrArg (Ideal.div _) (spreadR_apply _ b g h q k)

/-- The reference's result at an index. -/
theorem ref_apply (a0 : Vec Ideal S8x2048x2048 .fp8e4m3) (a1 a2 : Vec Ideal S8x2048x512 .fp8e4m3) (a3 : Vec Ideal S32 .f32) (a4 a5 : Vec Ideal S8 .f32)
    (b : Fin 8) (q c : Fin 2048) :
    G6 a0 a1 a2 a3 a4 a5 (ix3 b q c)
      = attn a0 a1 a2 a3 a4 a5 b q ⟨c.val / 256, by omega⟩ ⟨c.val / 64 % 4, by omega⟩ ⟨c.val % 64, by omega⟩ := by
  refine (pay1_apply (k0_pay3 a0 a1 a3 a4) a2 a5 b q c).trans ?_
  unfold attn
  refine congrArg (· * _) ?_
  rw [Finset.sum_range]
  refine Finset.sum_congr rfl fun k _ => ?_
  rw [prob_apply, c448, cm448, c256]
  unfold rowV rCode clip
  rw [pos_val]

end Cert.ReferenceIdeal.Row
-- ==== Proof.Body.lean ====
/- The kernel's body as nested loops.

   The body is printed flat: 16 query tiles, one after the other, tile `t` with three passes over
   its `t + 1` key chunks and a final product. Here the same program is written as recursions over
   tiles and chunks, and shown to be the printed one. -/
module

public import proofs.«01_k».proof.Proof.Gen.KernelIdeal.Frame.Runs

@[expose] public section

set_option maxRecDepth 16384

noncomputable section

namespace Cert.KernelIdeal.Body

open Idealize.ShloMosaic Idealize.ShloMosaic.TcCoe
open Idealize.SL Idealize.SL.Sem
open Cert.KernelIdeal Cert.KernelIdeal.Gen

variable {F : FTy → Type} [FloatOps F] [Named F]

/-! ### The values one tile computes -/

/-- The queries of one tile: the four heads' 128 rows each, stacked. -/
def qStack (a b c d : Vec F S1x128x64 .fp8e4m3) : FVec F S512x64 .fp8e4m3 :=
  concatenate S512x64 0
    [⟨S128x64, shapeCast S128x64 a shapeCasts_S1x128x64_S128x64⟩, ⟨S128x64, shapeCast S128x64 b shapeCasts_S1x128x64_S128x64⟩,
     ⟨S128x64, shapeCast S128x64 c shapeCasts_S1x128x64_S128x64⟩, ⟨S128x64, shapeCast S128x64 d shapeCasts_S1x128x64_S128x64⟩]
    concatenates_S128x64_S128x64_S128x64_S128x64_S512x64_d0

/-- The scaled scores of one key chunk: keys down, queries across. -/
def scores (cvec : FVec F S1x512 .f32) (q : FVec F S512x64 .fp8e4m3) (ks : Vec F S128x64 .fp8e4m3) : FVec F S128x512 .f32 :=
  mulf (matmul dot_S128x64_S512x64_S128x512_1_1_0_0_n_n none ks q (constant S128x512 .f32 0x00000000#32))
    (broadcastTo S128x512 cvec broadcasts_S1x512_S128x512)

/-- The diagonal chunk's scores: −∞ where the key is after the query. -/
def masked (mask : IVec S128x512 1) (s : FVec F S128x512 .f32) : FVec F S128x512 .f32 :=
  select mask s (broadcast S128x512 (Scalar.ofBits .f32 0xFF800000#32))

/-- The maximum over groups of eight rows of one chunk. -/
def chunkMax (s : FVec F S128x512 .f32) : FVec F S8x512 .f32 :=
  multiReduction .maximumf [0] S8x512 (shapeCast S16x8x512 s shapeCasts_S128x512_S16x8x512) 0xFF800000#32
    reduces_S16x8x512_S8x512 (.inl rfl) rfl

/-- The maximum of the eight partial maxima. -/
def foldMax (m : FVec F S8x512 .f32) : FVec F S1x512 .f32 :=
  shapeCast S1x512 (multiReduction .maximumf [0] S512 m 0xFF800000#32 reduces_S8x512_S512 (.inl rfl) rfl) shapeCasts_S512_S1x512

/-- The running maximum, begun at the first chunk. -/
def accMax (a : Option (FVec F S8x512 .f32)) (x : FVec F S8x512 .f32) : FVec F S8x512 .f32 :=
  match a with
  | none => x
  | some m => maximumf m x

/-- One chunk's exponentials. -/
def expo (m : FVec F S1x512 .f32) (s : FVec F S128x512 .f32) : FVec F S128x512 .f32 :=
  exp2 (subf s (broadcastTo S128x512 m broadcasts_S1x512_S128x512))

/-- The sums over groups of eight rows of one chunk. -/
def chunkSum (e : FVec F S128x512 .f32) : FVec F S8x512 .f32 :=
  multiReduction .add [0] S8x512 (shapeCast S16x8x512 e shapeCasts_S128x512_S16x8x512) 0x00000000#32
    reduces_S16x8x512_S8x512 (.inl rfl) rfl

/-- The sum of the eight partial sums. -/
def foldSum (l : FVec F S8x512 .f32) : FVec F S1x512 .f32 :=
  shapeCast S1x512 (multiReduction .add [0] S512 l 0x00000000#32 reduces_S8x512_S512 (.inl rfl) rfl) shapeCasts_S512_S1x512

/-- The running sum, begun at the first chunk. -/
def accSum (a : Option (FVec F S8x512 .f32)) (x : FVec F S8x512 .f32) : FVec F S8x512 .f32 :=
  match a with
  | none => x
  | some l => addf l x

/-- 256 over the sum. -/
def recip (l : FVec F S1x512 .f32) : FVec F S1x512 .f32 :=
  divf (broadcast S1x512 (Scalar.ofBits .f32 0x43800000#32)) l

/-- One chunk's codes: scaled, clipped to ±448, rounded. -/
def codes (r : FVec F S1x512 .f32) (e : FVec F S128x512 .f32) : FVec F S128x512 .fp8e4m3 :=
  truncf .fp8e4m3 (minimumf (broadcast S128x512 (Scalar.ofBits .f32 0x43E00000#32))
    (maximumf (broadcast S128x512 (Scalar.ofBits .f32 0xC3E00000#32))
      (mulf e (broadcastTo S128x512 r broadcasts_S1x512_S128x512)))) bitsLt_fp8e4m3_f32

/-- The values of one key/value head up to the end of tile `t`. -/
abbrev shV (t : ℕ) : Shape := ⟨2, ![64, 128 * (t + 1)]⟩
/-- The same, as loaded. -/
abbrev shV3 (t : ℕ) : Shape := ⟨3, ![1, 64, 128 * (t + 1)]⟩
/-- The codes up to the end of tile `t`. -/
abbrev shP (t : ℕ) : Shape := ⟨2, ![128 * (t + 1), 512]⟩

theorem dotT_wf (t : ℕ) (ht : t < 16) : DotDims.WF (shV t) (shP t) S64x512 [1] [0] [0] [1] [] [] := by
  interval_cases t <;> decide

/-- The contraction of tile `t`'s final product. -/
def dotT (t : ℕ) (ht : t < 16) : DotDims (shV t) (shP t) S64x512 where
  lhsContracting := [1]
  rhsContracting := [0]
  lhsNonContracting := [0]
  rhsNonContracting := [1]
  lhsBatch := []
  rhsBatch := []
  wf := dotT_wf t ht

theorem castV (t : ℕ) (ht : t < 16) : (shV3 t).ShapeCasts (shV t) := by
  interval_cases t <;> decide

/-- Tile `t`'s result, transposed: head and lane down, queries across. -/
def tileOut (t : ℕ) (ht : t < 16) (v : Vec F (shV3 t) .fp8e4m3) (p : Vec F (shP t) .fp8e4m3) (vs : Vec F S1x1x512 .f32) : FVec F S64x512 .f32 :=
  mulf (matmul (dotT t ht) none (shapeCast (shV t) v (castV t ht)) p (constant S64x512 .f32 0x00000000#32))
    (broadcastTo S64x512 (shapeCast S1x512 vs shapeCasts_S1x1x512_S1x512) broadcasts_S1x512_S64x512)

/-- Heads 0 and 1 of a tile's result, as stored. -/
def outLo (o : FVec F S64x512 .f32) : FVec F S1x128x128 .bf16 :=
  shapeCast S1x128x128 (truncf .bf16 (transpose S128x128 [1, 0] (concatenate S128x128 0
      [⟨S64x128, extractStridedSlice S64x128 ![0, 0] o slices_S64x512_o0_0_S64x128⟩,
       ⟨S64x128, extractStridedSlice S64x128 ![0, 128] o slices_S64x512_o0_128_S64x128⟩]
      concatenates_S64x128_S64x128_S128x128_d0) transposes_S128x128_p1_0_S128x128) bitsLt_bf16_f32) shapeCasts_S128x128_S1x128x128

/-- Heads 2 and 3 of a tile's result, as stored. -/
def outHi (o : FVec F S64x512 .f32) : FVec F S1x128x128 .bf16 :=
  shapeCast S1x128x128 (truncf .bf16 (transpose S128x128 [1, 0] (concatenate S128x128 0
      [⟨S64x128, extractStridedSlice S64x128 ![0, 256] o slices_S64x512_o0_256_S64x128⟩,
       ⟨S64x128, extractStridedSlice S64x128 ![0, 384] o slices_S64x512_o0_384_S64x128⟩]
      concatenates_S64x128_S64x128_S128x128_d0) transposes_S128x128_p1_0_S128x128) bitsLt_bf16_f32) shapeCasts_S128x128_S1x128x128

/-! ### Where the body reads and writes -/

theorem inbK (j : ℕ) (hj : j < 16) : ∀ a, (![128 * j, 0] : Fin 2 → ℕ) a + S128x64.size a ≤ S2048x64.size a := by
  intro a; fin_cases a <;> simp <;> omega
theorem inbC (j : ℕ) (hj : j < 16) : ∀ a, (![128 * j, 0] : Fin 2 → ℕ) a + S128x512.size a ≤ S2048x512.size a := by
  intro a; fin_cases a <;> simp <;> omega
theorem inbQ (t h : ℕ) (ht : t < 16) (hh : h < 4) : ∀ a, (![0, 128 * t, 64 * h] : Fin 3 → ℕ) a + S1x128x64.size a ≤ S1x2048x256.size a := by
  intro a; fin_cases a <;> simp <;> omega
theorem inbO (t h : ℕ) (ht : t < 16) (hh : h < 2) : ∀ a, (![0, 128 * t, 128 * h] : Fin 3 → ℕ) a + S1x128x128.size a ≤ S1x2048x256.size a := by
  intro a; fin_cases a <;> simp <;> omega
theorem inbP (t : ℕ) (ht : t < 16) : ∀ a, (![0, 0] : Fin 2 → ℕ) a + (shP t).size a ≤ S2048x512.size a := by
  intro a; fin_cases a <;> simp <;> omega
theorem inbV (t : ℕ) (ht : t < 16) (i : grid0.Coords) : ∀ a, (k0_off16 i) a + (shV3 t).size a ≤ S1x128x2048.size a := by
  intro a
  refine le_trans ?_ (k0_off16_inb i a)
  refine Nat.add_le_add_left ?_ _
  fin_cases a <;> simp; omega
theorem packC (j : ℕ) (hj : j < 16) : (Rect.unit (s := S2048x512) ![128 * j, 0] S128x512.size (inbC j hj)).PackedRows (EltTy.packing .fp8e4m3) := by
  exact (by decide +kernel : ∀ j : Fin 16, (Rect.unit (s := S2048x512) ![128 * j.val, 0] S128x512.size (inbC j.val j.isLt)).PackedRows (EltTy.packing .fp8e4m3)) ⟨j, hj⟩
theorem packO (t h : ℕ) (ht : t < 16) (hh : h < 2) : (Rect.unit (s := S1x2048x256) ![0, 128 * t, 128 * h] S1x128x128.size (inbO t h ht hh)).PackedRows (EltTy.packing .bf16) := by
  exact (by decide +kernel : ∀ (t : Fin 16) (h : Fin 2), (Rect.unit (s := S1x2048x256) ![0, 128 * t.val, 128 * h.val] S1x128x128.size (inbO t.val h.val t.isLt h.isLt)).PackedRows (EltTy.packing .bf16)) ⟨t, ht⟩ ⟨h, hh⟩
theorem h_shP (t : ℕ) : 0 < (shP t).numel := by simp [Shape.numel, Fin.prod_univ_two]
theorem h_shV3 (t : ℕ) : 0 < (shV3 t).numel := by simp [Shape.numel, Fin.prod_univ_three]

/-! ### The loops -/

/-- Programs of the kernel body. -/
abbrev ℙ (F : FTy → Type) := Prog (TpuEff nD τ sig (Elt F) Λ₀ .tc) PUnit

section
variable (i : grid0.Coords) (arg2 : Memref sig .tc .vmem S1x1x512 .f32) (harg2 : arg2.IsWhole) (arg3 : Memref sig .tc .vmem S1x1x512 .f32) (harg3 : arg3.IsWhole)
  (arg4 : Memref sig .tc .vmem S1x2048x256 .fp8e4m3) (harg4 : arg4.IsWhole) (arg5 : Memref sig .tc .vmem S1x2048x128 .fp8e4m3) (harg5 : arg5.IsWhole)
  (arg6 : Memref sig .tc .vmem S1x128x2048 .fp8e4m3) (harg6 : arg6.IsWhole) (arg7 : Memref sig .tc .vmem S1x2048x256 .bf16) (harg7 : arg7.IsWhole)
  (arg8 : Memref sig .tc .vmem S2048x64 .fp8e4m3) (harg8 : arg8.IsWhole) (arg9 : Memref sig .tc .vmem S2048x512 .f32) (harg9 : arg9.IsWhole)
  (arg10 : Memref sig .tc .vmem S2048x512 .fp8e4m3) (harg10 : arg10.IsWhole)

/-- One chunk of `arg9` read. -/
def loadS (j : ℕ) (hj : j < 16) (k : Vec F S128x512 .f32 → ℙ F) : ℙ F :=
  .op (.load arg9 (Rect.unit (s := S2048x512) ![128 * j, 0] S128x512.size (inbC j hj)).toLoadRect (View.loadsAt_vmem h_S128x512)) k

/-- One chunk of `arg9` written (after the read the printer puts before each store). -/
def storeS (j : ℕ) (hj : j < 16) (x : FVec F S128x512 .f32) (k : ℙ F) : ℙ F :=
  loadS arg9 j hj fun _ =>
  .op (.store arg9 (Rect.unit (s := S2048x512) ![128 * j, 0] S128x512.size (inbC j hj))
    (shapeCast S128x512 x shapeCasts_S128x512_S128x512) Finset.univ (View.stores_vmem_bits_univ h_S128x512 rfl) (.inl rfl)) fun _ => k

/-- One chunk of `arg10` written. -/
def storeP (j : ℕ) (hj : j < 16) (x : FVec F S128x512 .fp8e4m3) (k : ℙ F) : ℙ F :=
  .op (.load arg10 (Rect.unit (s := S2048x512) ![128 * j, 0] S128x512.size (inbC j hj)).toLoadRect (View.loadsAt_vmem h_S128x512)) fun _ =>
  .op (.store arg10 (Rect.unit (s := S2048x512) ![128 * j, 0] S128x512.size (inbC j hj))
    (shapeCast S128x512 x shapeCasts_S128x512_S128x512) Finset.univ
    (View.stores_vmem h_S128x512 (harg10.storeExact_slice rfl _ (packC j hj)) (fun _ => rfl)) (.inl rfl)) fun _ => k

/-- One half of the tile's result written. -/
def storeO (t h : ℕ) (ht : t < 16) (hh : h < 2) (x : FVec F S1x128x128 .bf16) (k : ℙ F) : ℙ F :=
  .op (.load arg7 (Rect.unit (s := S1x2048x256) ![0, 128 * t, 128 * h] S1x128x128.size (inbO t h ht hh)).toLoadRect (View.loadsAt_vmem h_S1x128x128)) fun _ =>
  .op (.store arg7 (Rect.unit (s := S1x2048x256) ![0, 128 * t, 128 * h] S1x128x128.size (inbO t h ht hh)) x Finset.univ
    (View.stores_vmem h_S1x128x128 (harg7.storeExact_slice rfl _ (packO t h ht hh)) (fun _ => rfl)) (.inl rfl)) fun _ => k

/-- One chunk of keys read. -/
def loadK (j : ℕ) (hj : j < 16) (k : Vec F S128x64 .fp8e4m3 → ℙ F) : ℙ F :=
  .op (.load arg8 (Rect.unit (s := S2048x64) ![128 * j, 0] S128x64.size (inbK j hj)).toLoadRect (View.loadsAt_vmem h_S128x64)) k

/-- One head's queries of one tile read. -/
def loadQ (t h : ℕ) (ht : t < 16) (hh : h < 4) (k : Vec F S1x128x64 .fp8e4m3 → ℙ F) : ℙ F :=
  .op (.load arg4 (Rect.unit (s := S1x2048x256) ![0, 128 * t, 64 * h] S1x128x64.size (inbQ t h ht hh)).toLoadRect (View.loadsAt_vmem h_S1x128x64)) k

/-- First pass, chunks `j … j + n`: scores and their maximum; the last chunk is the masked one. -/
def pass1 (mask : IVec S128x512 1) (cvec : FVec F S1x512 .f32) (q : FVec F S512x64 .fp8e4m3) :
    (n j : ℕ) → j + n < 16 → Option (FVec F S8x512 .f32) → (FVec F S8x512 .f32 → ℙ F) → ℙ F
  | 0, j, h, a, k =>
    loadK arg8 j (by omega) fun ks => storeS arg9 j (by omega) (masked mask (scores cvec q ks))
      (k (accMax a (chunkMax (masked mask (scores cvec q ks)))))
  | n + 1, j, h, a, k =>
    loadK arg8 j (by omega) fun ks => storeS arg9 j (by omega) (scores cvec q ks)
      (pass1 mask cvec q n (j + 1) (by omega) (some (accMax a (chunkMax (scores cvec q ks)))) k)

/-- Second pass: exponentials and their sum. -/
def pass2 (m : FVec F S1x512 .f32) :
    (n j : ℕ) → j + n < 16 → Option (FVec F S8x512 .f32) → (FVec F S8x512 .f32 → ℙ F) → ℙ F
  | 0, j, h, a, k =>
    loadS arg9 j (by omega) fun s => storeS arg9 j (by omega) (expo m s) (k (accSum a (chunkSum (expo m s))))
  | n + 1, j, h, a, k =>
    loadS arg9 j (by omega) fun s => storeS arg9 j (by omega) (expo m s)
      (pass2 m n (j + 1) (by omega) (some (accSum a (chunkSum (expo m s)))) k)

/-- Third pass: codes. -/
def pass3 (r : FVec F S1x512 .f32) : (n j : ℕ) → j + n < 16 → ℙ F → ℙ F
  | 0, j, h, k => loadS arg9 j (by omega) fun e => storeP arg10 harg10 j (by omega) (codes r e) k
  | n + 1, j, h, k => loadS arg9 j (by omega) fun e => storeP arg10 harg10 j (by omega) (codes r e) (pass3 r n (j + 1) (by omega) k)

/-- The end of a tile: the product with the values, scaled, and its two stores. -/
def final (t : ℕ) (ht : t < 16) (k : ℙ F) : ℙ F :=
  .op (.load arg6 (Rect.unit (s := S1x128x2048) (k0_off16 i) (shV3 t).size (inbV t ht i)).toLoadRect (View.loadsAt_vmem (h_shV3 t))) fun v =>
  .op (.load arg10 (Rect.unit (s := S2048x512) ![0, 0] (shP t).size (inbP t ht)).toLoadRect (View.loadsAt_vmem (h_shP t))) fun p =>
  .op (.load arg3 (Rect.unit (s := S1x1x512) ![0, 0, 0] S1x1x512.size inb_S1x1x512_S1x1x512_0_0_0).toLoadRect (View.loadsAt_vmem h_S1x1x512)) fun vs =>
  storeO arg7 harg7 t 0 ht (by omega) (outLo (tileOut t ht v p vs)) <|
  storeO arg7 harg7 t 1 ht (by omega) (outHi (tileOut t ht v p vs)) k

/-- One query tile. -/
def tile (mask : IVec S128x512 1) (cvec : FVec F S1x512 .f32) (t : ℕ) (ht : t < 16) (k : ℙ F) : ℙ F :=
  loadQ arg4 t 0 ht (by omega) fun q0 => loadQ arg4 t 1 ht (by omega) fun q1 =>
  loadQ arg4 t 2 ht (by omega) fun q2 => loadQ arg4 t 3 ht (by omega) fun q3 =>
  pass1 arg8 arg9 mask cvec (qStack q0 q1 q2 q3) t 0 (by omega) none fun m =>
  pass2 arg9 (foldMax m) t 0 (by omega) none fun l =>
  pass3 arg9 arg10 harg10 (recip (foldSum l)) t 0 (by omega) <|
  final i arg3 arg6 arg7 harg7 arg10 t ht k

/-- `n` query tiles from tile `t` on. -/
def tiles (mask : IVec S128x512 1) (cvec : FVec F S1x512 .f32) : (n t : ℕ) → t + n ≤ 16 → ℙ F
  | 0, _, _ => .ret ⟨⟩
  | n + 1, t, h => tile i arg3 arg4 arg6 arg7 harg7 arg8 arg9 arg10 harg10 mask cvec t (by omega) (tiles mask cvec n (t + 1) (by omega))

set_option maxHeartbeats 0 in
/-- The printed body is its first part followed by the 16 tiles. -/
theorem body_eq : cc0__attn_kernel (F := F) i arg2 harg2 arg3 harg3 arg4 harg4 arg5 harg5 arg6 harg6 arg7 harg7 arg8 harg8 arg9 harg9 arg10 harg10
    = k0_part1 i arg2 harg2 arg3 harg3 arg4 harg4 arg5 harg5 arg6 harg6 arg7 harg7 arg8 harg8 arg9 harg9 arg10 harg10 >>= fun x =>
      tiles i arg3 arg4 arg6 arg7 harg7 arg8 arg9 arg10 harg10
        (cmpi .sle x.2.2.1 (select x.2.2.2.2.1 (addi x.2.2.2.1 x.2.2.2.2.2) x.2.2.2.1)) x.2.1 16 0 (by omega) := by
  unfold cc0__attn_kernel k0_part137
  refine (Prog.bind_assoc _ _ _).trans (congrArg _ (funext fun x => ?_))
  obtain ⟨v9, v19, v20, v25, v34, v35⟩ := x
  exact rfl

end

end Cert.KernelIdeal.Body
-- ==== Proof.Rules.lean ====
/- One step of the kernel body at a time: a load and a store of a buffer held whole.

   A buffer is held at its contents; a load continues at the part of the contents it reads, a store
   at any contents that agree with the old ones off the part it writes. -/
module

public import proofs.«01_k».proof.Proof.Body
public import Idealize.ShloMosaic.Lib.ValueIdxCore

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Idealize.ShloMosaic.ValueIdx

variable {F : FTy → Type} [FloatOps F] [Named F]

local notation "𝕄" => MT nD τ sig Unit (Elt F) ℕ (UR sig nD τ) ℕ

/-- The weakest precondition of a body program on core `c`. -/
abbrev WP (c : Dev nD) (E : Set ℕ) (Q : PUnit.{1} → sProp 𝕄) (p : ℙ F) : sProp 𝕄 :=
  wp frame (wpE (defs₀ (F := F)) Variants.none (c : Thread nD τ) none) E p Q

section
variable {c : Dev nD} {E : Set ℕ}

/-- A load from a buffer held at `X`. -/
theorem ld {Q : PUnit.{1} → sProp 𝕄} {s : Shape} {e : EltTy} (m : Memref sig .tc .vmem s e) {r : Rect s} {hl : m.view.LoadsAt r.toLoadRect}
    {k : (r.shape.Idx → Elt F e) → ℙ F} {X : s.Idx → Elt F e} {P : sProp 𝕄}
    (h : iprop(P ∗ owns (c : Thread nD τ) m fullShare X) ⊢ WP c E Q (k fun x => X (r.emb x))) :
    iprop(P ∗ owns (c : Thread nD τ) m fullShare X) ⊢ WP c E Q (.op (.load m r.toLoadRect hl) k) := by
  refine Entails.trans (Q := iprop(P ∗ ∃ f, ⌜m.view.read (Elt F) f = X⌝ ∗ (m.view.loc (c : Thread nD τ) ↦[m.view.set]{fullShare} f))) .rfl ?_
  iintro ⟨HP, ⟨%f, %hf, H⟩⟩
  iapply (wp_load (defs := defs₀ (F := F)) Variants.none (c : Thread nD τ) none E (m := m) (r := r.toLoadRect) (S := m.view.set) (View.setOn_subset_set _ _)) $$ H
  iintro H
  subst hf
  iapply h
  isplitl [HP]; · iexact HP
  unfold owns; iexists f; isplitr; · ipureintro; rfl
  iexact H

/-- A store to a buffer held at `X`. -/
theorem st {Q : PUnit.{1} → sProp 𝕄} {s : Shape} {e : EltTy} (m : Memref sig .tc .vmem s e) {r : Rect s} {w : r.shape.Idx → Elt F e}
    {hx : (m.access r).Stores Finset.univ} {hm : Finset.univ = Finset.univ ∨ ∀ a, r.stride a = 1}
    {k : PUnit.{1} → ℙ F} {X : s.Idx → Elt F e} {P : sProp 𝕄}
    (h : ∀ Y : s.Idx → Elt F e, (∀ x, Y (r.emb x) = w x) → (∀ y, y ∉ r.set → Y y = X y) →
      iprop(P ∗ owns (c : Thread nD τ) m fullShare Y) ⊢ WP c E Q (k ⟨⟩)) :
    iprop(P ∗ owns (c : Thread nD τ) m fullShare X) ⊢ WP c E Q (.op (.store m r w Finset.univ hx hm) k) := by
  refine Entails.trans (Q := iprop(P ∗ ∃ f, ⌜m.view.read (Elt F) f = X⌝ ∗ (m.view.loc (c : Thread nD τ) ↦[m.view.set]{fullShare} f))) .rfl ?_
  iintro ⟨HP, ⟨%f, %hf, H⟩⟩
  iapply (wp_store (defs := defs₀ (F := F)) Variants.none (c : Thread nD τ) none E (m := m) (r := r) (w := w) (Mk := Finset.univ) (hx := hx) (hm := hm)
    (S := m.view.set) (by rw [View.setOn_univ, View.set_slice]; exact View.setOn_subset_set _ _)) $$ H
  iintro H
  subst hf
  iapply (h (m.view.read (Elt F) ((m.access r).write (Elt F) f w Finset.univ))
    (fun x => View.read_slice_write_emb r f w (Finset.mem_univ x))
    (fun y hy => View.read_slice_write_of_not_mem r f w Finset.univ (by rwa [Rect.map_emb_univ])))
  isplitl [HP]; · iexact HP
  unfold owns; iexists _; isplitr; · ipureintro; rfl
  iexact H

end

end Cert.KernelIdeal.Body
-- ==== Proof.Run.lean ====
/- What the 16 tiles of the body leave in the output block.

   The three passes over the chunks and the loop over the tiles are each one induction. -/
module

public import proofs.«01_k».proof.Proof.Rules
public import Idealize.ShloMosaic.Lib.Pipeline.Value

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Idealize.ShloMosaic.ValueIdx

variable {F : FTy → Type} [FloatOps F] [Named F]

local notation "𝕄" => MT nD τ sig Unit (Elt F) ℕ (UR sig nD τ) ℕ

/-! ### Pieces of the buffers -/

section pieces
variable {α : Type}

/-- Chunk `j` of a buffer of 2048 rows and 512 columns. -/
def rowsC (X : S2048x512.Idx → α) (j : ℕ) : S128x512.Idx → α :=
  fun x => X (ix2 ⟨(128 * j + (x 0).val) % 2048, Nat.mod_lt _ (by decide)⟩ (x 1))

/-- Chunk `j` of the keys. -/
def rowsK (X : S2048x64.Idx → α) (j : ℕ) : S128x64.Idx → α :=
  fun x => X (ix2 ⟨(128 * j + (x 0).val) % 2048, Nat.mod_lt _ (by decide)⟩ (x 1))

/-- Head `h`'s queries of tile `t`. -/
def qPiece (X : S1x2048x256.Idx → α) (t h : ℕ) : S1x128x64.Idx → α :=
  fun x => X (ix3 (x 0) ⟨(128 * t + (x 1).val) % 2048, Nat.mod_lt _ (by decide)⟩ ⟨(64 * h + (x 2).val) % 256, Nat.mod_lt _ (by decide)⟩)

/-- Half `h` of tile `t` of the output block. -/
def oPiece (X : S1x2048x256.Idx → α) (t h : ℕ) : S1x128x128.Idx → α :=
  fun x => X (ix3 (x 0) ⟨(128 * t + (x 1).val) % 2048, Nat.mod_lt _ (by decide)⟩ ⟨(128 * h + (x 2).val) % 256, Nat.mod_lt _ (by decide)⟩)

/-- The values of the block's key/value head up to the end of tile `t`. -/
def vPiece (X : S1x128x2048.Idx → α) (i : grid0.Coords) (t : ℕ) (ht : t < 16) : (shV3 t).Idx → α :=
  fun x => X ((Rect.unit (s := S1x128x2048) (k0_off16 i) (shV3 t).size (inbV t ht i)).emb x)

/-- Chunks put one below the other. -/
def stackC (P : ℕ → S128x512.Idx → α) (t : ℕ) : (shP t).Idx → α :=
  fun x => P ((x 0).val / 128) (ix2 ⟨(x 0).val % 128, Nat.mod_lt _ (by decide)⟩ (x 1))

theorem emb_C (j : ℕ) (hj : j < 16) (x : S128x512.Idx) :
    (Rect.unit (s := S2048x512) ![128 * j, 0] S128x512.size (inbC j hj)).emb x
      = ix2 ⟨(128 * j + (x 0).val) % 2048, Nat.mod_lt _ (by decide)⟩ (x 1) := by
  have h0 : (x 0).val < 128 := (x 0).isLt
  funext a; apply Fin.ext; fin_cases a
  · simp [Rect.emb_apply, ix2]; omega
  · simp [Rect.emb_apply, ix2]

theorem emb_K (j : ℕ) (hj : j < 16) (x : S128x64.Idx) :
    (Rect.unit (s := S2048x64) ![128 * j, 0] S128x64.size (inbK j hj)).emb x
      = ix2 ⟨(128 * j + (x 0).val) % 2048, Nat.mod_lt _ (by decide)⟩ (x 1) := by
  have h0 : (x 0).val < 128 := (x 0).isLt
  funext a; apply Fin.ext; fin_cases a
  · simp [Rect.emb_apply, ix2]; omega
  · simp [Rect.emb_apply, ix2]

theorem emb_Q (t h : ℕ) (ht : t < 16) (hh : h < 4) (x : S1x128x64.Idx) :
    (Rect.unit (s := S1x2048x256) ![0, 128 * t, 64 * h] S1x128x64.size (inbQ t h ht hh)).emb x
      = ix3 (x 0) ⟨(128 * t + (x 1).val) % 2048, Nat.mod_lt _ (by decide)⟩ ⟨(64 * h + (x 2).val) % 256, Nat.mod_lt _ (by decide)⟩ := by
  have h1 : (x 1).val < 128 := (x 1).isLt
  have h2 : (x 2).val < 64 := (x 2).isLt
  funext a; apply Fin.ext; fin_cases a
  · simp [Rect.emb_apply, ix3]
  · simp [Rect.emb_apply, ix3]; omega
  · simp [Rect.emb_apply, ix3]; omega

theorem emb_O (t h : ℕ) (ht : t < 16) (hh : h < 2) (x : S1x128x128.Idx) :
    (Rect.unit (s := S1x2048x256) ![0, 128 * t, 128 * h] S1x128x128.size (inbO t h ht hh)).emb x
      = ix3 (x 0) ⟨(128 * t + (x 1).val) % 2048, Nat.mod_lt _ (by decide)⟩ ⟨(128 * h + (x 2).val) % 256, Nat.mod_lt _ (by decide)⟩ := by
  have h1 : (x 1).val < 128 := (x 1).isLt
  have h2 : (x 2).val < 128 := (x 2).isLt
  funext a; apply Fin.ext; fin_cases a
  · simp [Rect.emb_apply, ix3]
  · simp [Rect.emb_apply, ix3]; omega
  · simp [Rect.emb_apply, ix3]; omega

theorem rowsC_eq (X : S2048x512.Idx → α) (j : ℕ) (hj : j < 16) :
    (fun x => X ((Rect.unit (s := S2048x512) ![128 * j, 0] S128x512.size (inbC j hj)).emb x)) = rowsC X j :=
  funext fun x => congrArg X (emb_C j hj x)

theorem rowsK_eq (X : S2048x64.Idx → α) (j : ℕ) (hj : j < 16) :
    (fun x => X ((Rect.unit (s := S2048x64) ![128 * j, 0] S128x64.size (inbK j hj)).emb x)) = rowsK X j :=
  funext fun x => congrArg X (emb_K j hj x)

theorem qPiece_eq (X : S1x2048x256.Idx → α) (t h : ℕ) (ht : t < 16) (hh : h < 4) :
    (fun x => X ((Rect.unit (s := S1x2048x256) ![0, 128 * t, 64 * h] S1x128x64.size (inbQ t h ht hh)).emb x)) = qPiece X t h :=
  funext fun x => congrArg X (emb_Q t h ht hh x)

/-- Reading the codes back: the rows up to the end of tile `t` are the chunks stacked. -/
theorem stackC_eq (X : S2048x512.Idx → α) (P : ℕ → S128x512.Idx → α) (t : ℕ) (ht : t < 16) (h : ∀ j ≤ t, rowsC X j = P j) :
    (fun x => X ((Rect.unit (s := S2048x512) ![0, 0] (shP t).size (inbP t ht)).emb x)) = stackC P t := by
  funext x
  have h0 : (x 0).val < 128 * (t + 1) := (x 0).isLt
  unfold stackC
  rw [← h _ (by omega)]
  unfold rowsC
  refine congrArg X ?_
  funext a; apply Fin.ext; fin_cases a
  · simp [Rect.emb_apply, ix2]; omega
  · simp [Rect.emb_apply, ix2]

/-- A write of chunk `j` leaves the other chunks. -/
theorem rowsC_other {X Y : S2048x512.Idx → α} {j : ℕ} {hj : j < 16}
    (h : ∀ y, y ∉ (Rect.unit (s := S2048x512) ![128 * j, 0] S128x512.size (inbC j hj)).set → Y y = X y)
    (j' : ℕ) (hj' : j' < 16) (hne : j' ≠ j) : rowsC Y j' = rowsC X j' := by
  funext x
  have h0 : (x 0).val < 128 := (x 0).isLt
  refine h _ fun hm => ?_
  have := (Rect.mem_set_unit.mp hm) 0
  simp [ix2] at this
  omega

/-- A write of one half of one tile leaves the others. -/
theorem oPiece_other {X Y : S1x2048x256.Idx → α} {t h : ℕ} {ht : t < 16} {hh : h < 2}
    (hY : ∀ y, y ∉ (Rect.unit (s := S1x2048x256) ![0, 128 * t, 128 * h] S1x128x128.size (inbO t h ht hh)).set → Y y = X y)
    (t' h' : ℕ) (ht' : t' < 16) (hh' : h' < 2) (hne : t' ≠ t ∨ h' ≠ h) : oPiece Y t' h' = oPiece X t' h' := by
  funext x
  have h1 : (x 1).val < 128 := (x 1).isLt
  have h2 : (x 2).val < 128 := (x 2).isLt
  refine hY _ fun hm => ?_
  have a1 := (Rect.mem_set_unit.mp hm) 1
  have a2 := (Rect.mem_set_unit.mp hm) 2
  simp [ix3] at a1 a2
  omega

end pieces

/-! ### The values of a tile -/

/-- Chunk `j` of tile `t`'s scores: the diagonal chunk masked. -/
def sCh (mask : IVec S128x512 1) (cvec : FVec F S1x512 .f32) (X4 : Vec F S1x2048x256 .fp8e4m3) (K : Vec F S2048x64 .fp8e4m3) (t j : ℕ) : FVec F S128x512 .f32 :=
  if j = t then masked mask (scores cvec (qStack (qPiece X4 t 0) (qPiece X4 t 1) (qPiece X4 t 2) (qPiece X4 t 3)) (rowsK K j))
  else scores cvec (qStack (qPiece X4 t 0) (qPiece X4 t 1) (qPiece X4 t 2) (qPiece X4 t 3)) (rowsK K j)

/-- The running maximum after chunk `j`. -/
def mAt (f : ℕ → FVec F S128x512 .f32) : ℕ → FVec F S8x512 .f32
  | 0 => chunkMax (f 0)
  | j + 1 => maximumf (mAt f j) (chunkMax (f (j + 1)))

/-- The running sum after chunk `j`. -/
def lAt (f : ℕ → FVec F S128x512 .f32) : ℕ → FVec F S8x512 .f32
  | 0 => chunkSum (f 0)
  | j + 1 => addf (lAt f j) (chunkSum (f (j + 1)))

/-- An accumulator before chunk `j`. -/
def before (f : ℕ → FVec F S8x512 .f32) : ℕ → Option (FVec F S8x512 .f32)
  | 0 => none
  | j + 1 => some (f j)

theorem accMax_before (f : ℕ → FVec F S128x512 .f32) (j : ℕ) : accMax (before (mAt f) j) (chunkMax (f j)) = mAt f j := by
  cases j <;> rfl
theorem accSum_before (f : ℕ → FVec F S128x512 .f32) (j : ℕ) : accSum (before (lAt f) j) (chunkSum (f j)) = lAt f j := by
  cases j <;> rfl

/-- Tile `t`'s exponentials. -/
def eCh (f : ℕ → FVec F S128x512 .f32) (t j : ℕ) : FVec F S128x512 .f32 := expo (foldMax (mAt f t)) (f j)

/-- Tile `t`'s codes. -/
def pCh (f : ℕ → FVec F S128x512 .f32) (t j : ℕ) : FVec F S128x512 .fp8e4m3 := codes (recip (foldSum (lAt (eCh f t) t))) (eCh f t j)

/-- Tile `t`'s result, transposed. -/
def oTile (i : grid0.Coords) (mask : IVec S128x512 1) (cvec : FVec F S1x512 .f32) (X3 : Vec F S1x1x512 .f32) (X4 : Vec F S1x2048x256 .fp8e4m3)
    (X6 : Vec F S1x128x2048 .fp8e4m3) (K : Vec F S2048x64 .fp8e4m3) (t : ℕ) (ht : t < 16) : FVec F S64x512 .f32 :=
  tileOut t ht (vPiece X6 i t ht) (stackC (pCh (sCh mask cvec X4 K t) t) t) X3

/-- The output block. -/
def outBlk (i : grid0.Coords) (mask : IVec S128x512 1) (cvec : FVec F S1x512 .f32) (X3 : Vec F S1x1x512 .f32) (X4 : Vec F S1x2048x256 .fp8e4m3)
    (X6 : Vec F S1x128x2048 .fp8e4m3) (K : Vec F S2048x64 .fp8e4m3) : Vec F S1x2048x256 .bf16 := fun x =>
  if (x 2).val < 128 then
    outLo (oTile i mask cvec X3 X4 X6 K ((x 1).val / 128) (by have h : (x 1).val < 2048 := (x 1).isLt; omega))
      (ix3 (x 0) ⟨(x 1).val % 128, Nat.mod_lt _ (by decide)⟩ ⟨(x 2).val % 128, Nat.mod_lt _ (by decide)⟩)
  else
    outHi (oTile i mask cvec X3 X4 X6 K ((x 1).val / 128) (by have h : (x 1).val < 2048 := (x 1).isLt; omega))
      (ix3 (x 0) ⟨(x 1).val % 128, Nat.mod_lt _ (by decide)⟩ ⟨(x 2).val % 128, Nat.mod_lt _ (by decide)⟩)

/-! ### The runs -/

section
variable (c : Dev nD) (E : Set ℕ)
  (arg3 : Memref sig .tc .vmem S1x1x512 .f32) (arg4 : Memref sig .tc .vmem S1x2048x256 .fp8e4m3)
  (arg6 : Memref sig .tc .vmem S1x128x2048 .fp8e4m3) (arg7 : Memref sig .tc .vmem S1x2048x256 .bf16) (harg7 : arg7.IsWhole)
  (arg8 : Memref sig .tc .vmem S2048x64 .fp8e4m3) (arg9 : Memref sig .tc .vmem S2048x512 .f32)
  (arg10 : Memref sig .tc .vmem S2048x512 .fp8e4m3) (harg10 : arg10.IsWhole)
  (X3 : Vec F S1x1x512 .f32) (X4 : Vec F S1x2048x256 .fp8e4m3) (X6 : Vec F S1x128x2048 .fp8e4m3) (K : Vec F S2048x64 .fp8e4m3)

/-- The buffers the tiles use, at their contents, and a rest. -/
def St (R : sProp 𝕄) (X7 : Vec F S1x2048x256 .bf16) (X9 : Vec F S2048x512 .f32) (X10 : Vec F S2048x512 .fp8e4m3) : sProp 𝕄 :=
  iprop(R ∗ owns (c : Thread nD τ) arg3 fullShare X3 ∗ owns (c : Thread nD τ) arg4 fullShare X4 ∗ owns (c : Thread nD τ) arg6 fullShare X6
    ∗ owns (c : Thread nD τ) arg8 fullShare K ∗ owns (c : Thread nD τ) arg7 fullShare X7 ∗ owns (c : Thread nD τ) arg9 fullShare X9
    ∗ owns (c : Thread nD τ) arg10 fullShare X10)

/-- Seven resources with one of them last. -/
theorem last1 (A B C D G H I J : sProp 𝕄) : iprop(A ∗ B ∗ C ∗ D ∗ G ∗ H ∗ I ∗ J) ⊣⊢ iprop((A ∗ C ∗ D ∗ G ∗ H ∗ I ∗ J) ∗ B) := by
  constructor
  · iintro ⟨HA, HB, HC, HD, HG, HH, HI, HJ⟩; iframe
  · iintro ⟨⟨HA, HC, HD, HG, HH, HI, HJ⟩, HB⟩; iframe
theorem last2 (A B C D G H I J : sProp 𝕄) : iprop(A ∗ B ∗ C ∗ D ∗ G ∗ H ∗ I ∗ J) ⊣⊢ iprop((A ∗ B ∗ D ∗ G ∗ H ∗ I ∗ J) ∗ C) := by
  constructor
  · iintro ⟨HA, HB, HC, HD, HG, HH, HI, HJ⟩; iframe
  · iintro ⟨⟨HA, HB, HD, HG, HH, HI, HJ⟩, HC⟩; iframe
theorem last3 (A B C D G H I J : sProp 𝕄) : iprop(A ∗ B ∗ C ∗ D ∗ G ∗ H ∗ I ∗ J) ⊣⊢ iprop((A ∗ B ∗ C ∗ G ∗ H ∗ I ∗ J) ∗ D) := by
  constructor
  · iintro ⟨HA, HB, HC, HD, HG, HH, HI, HJ⟩; iframe
  · iintro ⟨⟨HA, HB, HC, HG, HH, HI, HJ⟩, HD⟩; iframe
theorem last4 (A B C D G H I J : sProp 𝕄) : iprop(A ∗ B ∗ C ∗ D ∗ G ∗ H ∗ I ∗ J) ⊣⊢ iprop((A ∗ B ∗ C ∗ D ∗ H ∗ I ∗ J) ∗ G) := by
  constructor
  · iintro ⟨HA, HB, HC, HD, HG, HH, HI, HJ⟩; iframe
  · iintro ⟨⟨HA, HB, HC, HD, HH, HI, HJ⟩, HG⟩; iframe
theorem last5 (A B C D G H I J : sProp 𝕄) : iprop(A ∗ B ∗ C ∗ D ∗ G ∗ H ∗ I ∗ J) ⊣⊢ iprop((A ∗ B ∗ C ∗ D ∗ G ∗ I ∗ J) ∗ H) := by
  constructor
  · iintro ⟨HA, HB, HC, HD, HG, HH, HI, HJ⟩; iframe
  · iintro ⟨⟨HA, HB, HC, HD, HG, HI, HJ⟩, HH⟩; iframe
theorem last6 (A B C D G H I J : sProp 𝕄) : iprop(A ∗ B ∗ C ∗ D ∗ G ∗ H ∗ I ∗ J) ⊣⊢ iprop((A ∗ B ∗ C ∗ D ∗ G ∗ H ∗ J) ∗ I) := by
  constructor
  · iintro ⟨HA, HB, HC, HD, HG, HH, HI, HJ⟩; iframe
  · iintro ⟨⟨HA, HB, HC, HD, HG, HH, HJ⟩, HI⟩; iframe
theorem last7 (A B C D G H I J : sProp 𝕄) : iprop(A ∗ B ∗ C ∗ D ∗ G ∗ H ∗ I ∗ J) ⊣⊢ iprop((A ∗ B ∗ C ∗ D ∗ G ∗ H ∗ I) ∗ J) := by
  constructor
  · iintro ⟨HA, HB, HC, HD, HG, HH, HI, HJ⟩; iframe
  · iintro ⟨⟨HA, HB, HC, HD, HG, HH, HI⟩, HJ⟩; iframe

theorem loadS_sp {Q : PUnit.{1} → sProp 𝕄} (R : sProp 𝕄) (j : ℕ) (hj : j < 16) (k : Vec F S128x512 .f32 → ℙ F) {X7 X9 X10}
    (h : St c arg3 arg4 arg6 arg7 arg8 arg9 arg10 X3 X4 X6 K R X7 X9 X10 ⊢ WP c E Q (k (rowsC X9 j))) :
    St c arg3 arg4 arg6 arg7 arg8 arg9 arg10 X3 X4 X6 K R X7 X9 X10 ⊢ WP c E Q (loadS arg9 j hj k) :=
  (last6 ..).1.trans (ld arg9 ((last6 ..).2.trans (by rw [rowsC_eq _ j hj]; exact h)))

theorem storeS_sp {Q : PUnit.{1} → sProp 𝕄} (R : sProp 𝕄) (j : ℕ) (hj : j < 16) (x : FVec F S128x512 .f32) (k : ℙ F) {X7 X9 X10}
    (h : ∀ Y, rowsC Y j = x → (∀ j' < 16, j' ≠ j → rowsC Y j' = rowsC X9 j') →
      St c arg3 arg4 arg6 arg7 arg8 arg9 arg10 X3 X4 X6 K R X7 Y X10 ⊢ WP c E Q k) :
    St c arg3 arg4 arg6 arg7 arg8 arg9 arg10 X3 X4 X6 K R X7 X9 X10 ⊢ WP c E Q (storeS arg9 j hj x k) :=
  loadS_sp c E arg3 arg4 arg6 arg7 arg8 arg9 arg10 X3 X4 X6 K R j hj _
    ((last6 ..).1.trans (st arg9 fun Y hY hY' => (last6 ..).2.trans (h Y
      ((rowsC_eq Y j hj).symm.trans (funext fun z => (hY z).trans (congrFun (shapeCast_self _ _) z)))
      fun j' hj' hne => rowsC_other (hj := hj) hY' j' hj' hne)))

theorem storeP_sp {Q : PUnit.{1} → sProp 𝕄} (R : sProp 𝕄) (j : ℕ) (hj : j < 16) (x : FVec F S128x512 .fp8e4m3) (k : ℙ F) {X7 X9 X10}
    (h : ∀ Y, rowsC Y j = x → (∀ j' < 16, j' ≠ j → rowsC Y j' = rowsC X10 j') →
      St c arg3 arg4 arg6 arg7 arg8 arg9 arg10 X3 X4 X6 K R X7 X9 Y ⊢ WP c E Q k) :
    St c arg3 arg4 arg6 arg7 arg8 arg9 arg10 X3 X4 X6 K R X7 X9 X10 ⊢ WP c E Q (storeP arg10 harg10 j hj x k) :=
  (last7 ..).1.trans (ld arg10 (st arg10 fun Y hY hY' => (last7 ..).2.trans (h Y
      ((rowsC_eq Y j hj).symm.trans (funext fun z => (hY z).trans (congrFun (shapeCast_self _ _) z)))
      fun j' hj' hne => rowsC_other (hj := hj) hY' j' hj' hne)))

theorem storeO_sp {Q : PUnit.{1} → sProp 𝕄} (R : sProp 𝕄) (t h : ℕ) (ht : t < 16) (hh : h < 2) (x : FVec F S1x128x128 .bf16) (k : ℙ F) {X7 X9 X10}
    (hk : ∀ Y, oPiece Y t h = x → (∀ t' h', t' < 16 → h' < 2 → (t' ≠ t ∨ h' ≠ h) → oPiece Y t' h' = oPiece X7 t' h') →
      St c arg3 arg4 arg6 arg7 arg8 arg9 arg10 X3 X4 X6 K R Y X9 X10 ⊢ WP c E Q k) :
    St c arg3 arg4 arg6 arg7 arg8 arg9 arg10 X3 X4 X6 K R X7 X9 X10 ⊢ WP c E Q (storeO arg7 harg7 t h ht hh x k) :=
  (last5 ..).1.trans (ld arg7 (st arg7 fun Y hY hY' => (last5 ..).2.trans (hk Y
      (funext fun z => (congrArg Y (emb_O t h ht hh z)).symm.trans (hY z))
      fun t' h' ht' hh' hne => oPiece_other (ht := ht) (hh := hh) hY' t' h' ht' hh' hne)))

theorem loadK_sp {Q : PUnit.{1} → sProp 𝕄} (R : sProp 𝕄) (j : ℕ) (hj : j < 16) (k : Vec F S128x64 .fp8e4m3 → ℙ F) {X7 X9 X10}
    (h : St c arg3 arg4 arg6 arg7 arg8 arg9 arg10 X3 X4 X6 K R X7 X9 X10 ⊢ WP c E Q (k (rowsK K j))) :
    St c arg3 arg4 arg6 arg7 arg8 arg9 arg10 X3 X4 X6 K R X7 X9 X10 ⊢ WP c E Q (loadK arg8 j hj k) :=
  (last4 ..).1.trans (ld arg8 ((last4 ..).2.trans (by rw [rowsK_eq _ j hj]; exact h)))

theorem loadQ_sp {Q : PUnit.{1} → sProp 𝕄} (R : sProp 𝕄) (t h : ℕ) (ht : t < 16) (hh : h < 4) (k : Vec F S1x128x64 .fp8e4m3 → ℙ F) {X7 X9 X10}
    (hk : St c arg3 arg4 arg6 arg7 arg8 arg9 arg10 X3 X4 X6 K R X7 X9 X10 ⊢ WP c E Q (k (qPiece X4 t h))) :
    St c arg3 arg4 arg6 arg7 arg8 arg9 arg10 X3 X4 X6 K R X7 X9 X10 ⊢ WP c E Q (loadQ arg4 t h ht hh k) :=
  (last2 ..).1.trans (ld arg4 ((last2 ..).2.trans (by rw [qPiece_eq _ t h ht hh]; exact hk)))

/-- The first pass. -/
theorem pass1_sp {Q : PUnit.{1} → sProp 𝕄} (R : sProp 𝕄) (mask : IVec S128x512 1) (cvec : FVec F S1x512 .f32) (q : FVec F S512x64 .fp8e4m3)
    (f : ℕ → FVec F S128x512 .f32) (t : ℕ) (hf : ∀ j < t, f j = scores cvec q (rowsK K j)) (hft : f t = masked mask (scores cvec q (rowsK K t)))
    (k : FVec F S8x512 .f32 → ℙ F) {X7 X10}
    (hk : ∀ Y, (∀ j ≤ t, rowsC Y j = f j) → St c arg3 arg4 arg6 arg7 arg8 arg9 arg10 X3 X4 X6 K R X7 Y X10 ⊢ WP c E Q (k (mAt f t))) :
    ∀ (n j : ℕ) (h : j + n < 16), j + n = t → ∀ X9, (∀ j' < j, rowsC X9 j' = f j') →
      St c arg3 arg4 arg6 arg7 arg8 arg9 arg10 X3 X4 X6 K R X7 X9 X10 ⊢ WP c E Q (pass1 arg8 arg9 mask cvec q n j h (before (mAt f) j) k)
  | 0, j, h, e, X9, hX => by
    obtain rfl : j = t := e
    unfold pass1
    refine loadK_sp c E arg3 arg4 arg6 arg7 arg8 arg9 arg10 X3 X4 X6 K R j _ _ ?_
    refine storeS_sp c E arg3 arg4 arg6 arg7 arg8 arg9 arg10 X3 X4 X6 K R j _ _ _ fun Y h1 h2 => ?_
    rw [← hft, accMax_before]
    rw [← hft] at h1
    refine hk Y fun j' hj' => ?_
    rcases Nat.eq_or_lt_of_le hj' with rfl | hlt
    · exact h1
    · rw [h2 j' (by omega) (by omega), hX j' hlt]
  | n + 1, j, h, e, X9, hX => by
    unfold pass1
    refine loadK_sp c E arg3 arg4 arg6 arg7 arg8 arg9 arg10 X3 X4 X6 K R j _ _ ?_
    refine storeS_sp c E arg3 arg4 arg6 arg7 arg8 arg9 arg10 X3 X4 X6 K R j _ _ _ fun Y h1 h2 => ?_
    rw [← hf j (by omega), accMax_before]
    rw [← hf j (by omega)] at h1
    refine pass1_sp R mask cvec q f t hf hft k hk n (j + 1) (by omega) (by omega) Y fun j' hj' => ?_
    rcases Nat.eq_or_lt_of_le (Nat.lt_succ_iff.mp hj') with rfl | hlt
    · exact h1
    · rw [h2 j' (by omega) (by omega), hX j' hlt]

/-- The second pass. -/
theorem pass2_sp {Q : PUnit.{1} → sProp 𝕄} (R : sProp 𝕄) (m : FVec F S1x512 .f32) (f g : ℕ → FVec F S128x512 .f32) (hg : ∀ j, g j = expo m (f j)) (t : ℕ)
    (k : FVec F S8x512 .f32 → ℙ F) {X7 X10}
    (hk : ∀ Y, (∀ j ≤ t, rowsC Y j = g j) → St c arg3 arg4 arg6 arg7 arg8 arg9 arg10 X3 X4 X6 K R X7 Y X10 ⊢ WP c E Q (k (lAt g t))) :
    ∀ (n j : ℕ) (h : j + n < 16), j + n = t → ∀ X9, (∀ j' < j, rowsC X9 j' = g j') → (∀ j', j ≤ j' → j' ≤ t → rowsC X9 j' = f j') →
      St c arg3 arg4 arg6 arg7 arg8 arg9 arg10 X3 X4 X6 K R X7 X9 X10 ⊢ WP c E Q (pass2 arg9 m n j h (before (lAt g) j) k)
  | 0, j, h, e, X9, hX, hX' => by
    obtain rfl : j = t := e
    unfold pass2
    refine loadS_sp c E arg3 arg4 arg6 arg7 arg8 arg9 arg10 X3 X4 X6 K R j _ _ ?_
    rw [hX' j le_rfl le_rfl, ← hg, accSum_before]
    refine storeS_sp c E arg3 arg4 arg6 arg7 arg8 arg9 arg10 X3 X4 X6 K R j _ _ _ fun Y h1 h2 => ?_
    refine hk Y fun j' hj' => ?_
    rcases Nat.eq_or_lt_of_le hj' with rfl | hlt
    · exact h1
    · rw [h2 j' (by omega) (by omega), hX j' hlt]
  | n + 1, j, h, e, X9, hX, hX' => by
    unfold pass2
    refine loadS_sp c E arg3 arg4 arg6 arg7 arg8 arg9 arg10 X3 X4 X6 K R j _ _ ?_
    rw [hX' j le_rfl (by omega), ← hg, accSum_before]
    refine storeS_sp c E arg3 arg4 arg6 arg7 arg8 arg9 arg10 X3 X4 X6 K R j _ _ _ fun Y h1 h2 => ?_
    refine pass2_sp R m f g hg t k hk n (j + 1) (by omega) (by omega) Y (fun j' hj' => ?_) fun j' h3 h4 => ?_
    · rcases Nat.eq_or_lt_of_le (Nat.lt_succ_iff.mp hj') with rfl | hlt
      · exact h1
      · rw [h2 j' (by omega) (by omega), hX j' hlt]
    · rw [h2 j' (by omega) (by omega), hX' j' (by omega) h4]

/-- The third pass. -/
theorem pass3_sp {Q : PUnit.{1} → sProp 𝕄} (R : sProp 𝕄) (r : FVec F S1x512 .f32) (f : ℕ → FVec F S128x512 .f32) (t : ℕ) (k : ℙ F) {X7 X9}
    (hX9 : ∀ j ≤ t, rowsC X9 j = f j)
    (hk : ∀ Y, (∀ j ≤ t, rowsC Y j = codes r (f j)) → St c arg3 arg4 arg6 arg7 arg8 arg9 arg10 X3 X4 X6 K R X7 X9 Y ⊢ WP c E Q k) :
    ∀ (n j : ℕ) (h : j + n < 16), j + n = t → ∀ X10, (∀ j' < j, rowsC X10 j' = codes r (f j')) →
      St c arg3 arg4 arg6 arg7 arg8 arg9 arg10 X3 X4 X6 K R X7 X9 X10 ⊢ WP c E Q (pass3 arg9 arg10 harg10 r n j h k)
  | 0, j, h, e, X10, hX => by
    obtain rfl : j = t := e
    unfold pass3
    refine loadS_sp c E arg3 arg4 arg6 arg7 arg8 arg9 arg10 X3 X4 X6 K R j _ _ ?_
    rw [hX9 j le_rfl]
    refine storeP_sp c E arg3 arg4 arg6 arg7 arg8 arg9 arg10 harg10 X3 X4 X6 K R j _ _ _ fun Y h1 h2 => ?_
    refine hk Y fun j' hj' => ?_
    rcases Nat.eq_or_lt_of_le hj' with rfl | hlt
    · exact h1
    · rw [h2 j' (by omega) (by omega), hX j' hlt]
  | n + 1, j, h, e, X10, hX => by
    unfold pass3
    refine loadS_sp c E arg3 arg4 arg6 arg7 arg8 arg9 arg10 X3 X4 X6 K R j _ _ ?_
    rw [hX9 j (by omega)]
    refine storeP_sp c E arg3 arg4 arg6 arg7 arg8 arg9 arg10 harg10 X3 X4 X6 K R j _ _ _ fun Y h1 h2 => ?_
    refine pass3_sp R r f t k hX9 hk n (j + 1) (by omega) (by omega) Y fun j' hj' => ?_
    rcases Nat.eq_or_lt_of_le (Nat.lt_succ_iff.mp hj') with rfl | hlt
    · exact h1
    · rw [h2 j' (by omega) (by omega), hX j' hlt]

variable (i : grid0.Coords)

/-- The end of a tile. -/
theorem final_sp {Q : PUnit.{1} → sProp 𝕄} (R : sProp 𝕄) (t : ℕ) (ht : t < 16) (P : ℕ → FVec F S128x512 .fp8e4m3) (k : ℙ F) {X7 X9 X10}
    (hX : ∀ j ≤ t, rowsC X10 j = P j)
    (hk : ∀ Y, oPiece Y t 0 = outLo (tileOut t ht (vPiece X6 i t ht) (stackC P t) X3) →
      oPiece Y t 1 = outHi (tileOut t ht (vPiece X6 i t ht) (stackC P t) X3) →
      (∀ t' h', t' < 16 → h' < 2 → t' ≠ t → oPiece Y t' h' = oPiece X7 t' h') →
      St c arg3 arg4 arg6 arg7 arg8 arg9 arg10 X3 X4 X6 K R Y X9 X10 ⊢ WP c E Q k) :
    St c arg3 arg4 arg6 arg7 arg8 arg9 arg10 X3 X4 X6 K R X7 X9 X10 ⊢ WP c E Q (final i arg3 arg6 arg7 harg7 arg10 t ht k) := by
  unfold final
  refine (last3 ..).1.trans (ld arg6 ((last3 ..).2.trans ?_))
  refine (last7 ..).1.trans (ld arg10 ((last7 ..).2.trans ?_))
  refine (last1 ..).1.trans (ld arg3 ((last1 ..).2.trans ?_))
  have e3 : (fun x => X3 ((Rect.unit (s := S1x1x512) ![0, 0, 0] S1x1x512.size inb_S1x1x512_S1x1x512_0_0_0).emb x)) = X3 := by
    funext x
    refine congrArg X3 ?_
    funext a; apply Fin.ext; fin_cases a <;> simp [Rect.emb_apply]
  rw [stackC_eq X10 P t ht hX, e3]
  refine storeO_sp c E arg3 arg4 arg6 arg7 harg7 arg8 arg9 arg10 X3 X4 X6 K R t 0 ht _ _ _ fun Y h1 h2 => ?_
  refine storeO_sp c E arg3 arg4 arg6 arg7 harg7 arg8 arg9 arg10 X3 X4 X6 K R t 1 ht _ _ _ fun Y' h1' h2' => ?_
  refine hk Y' ?_ h1' fun t' h' ht' hh' hne => ?_
  · rw [h2' t 0 ht (by omega) (Or.inr (by omega))]; exact h1
  · rw [h2' t' h' ht' hh' (Or.inl hne), h2 t' h' ht' hh' (Or.inl hne)]

/-- One tile. -/
theorem tile_sp {Q : PUnit.{1} → sProp 𝕄} (R : sProp 𝕄) (mask : IVec S128x512 1) (cvec : FVec F S1x512 .f32) (t : ℕ) (ht : t < 16) (k : ℙ F) {X7 X9 X10}
    (hk : ∀ Y Y9 Y10, oPiece Y t 0 = outLo (oTile i mask cvec X3 X4 X6 K t ht) →
      oPiece Y t 1 = outHi (oTile i mask cvec X3 X4 X6 K t ht) →
      (∀ t' h', t' < 16 → h' < 2 → t' ≠ t → oPiece Y t' h' = oPiece X7 t' h') →
      St c arg3 arg4 arg6 arg7 arg8 arg9 arg10 X3 X4 X6 K R Y Y9 Y10 ⊢ WP c E Q k) :
    St c arg3 arg4 arg6 arg7 arg8 arg9 arg10 X3 X4 X6 K R X7 X9 X10 ⊢
      WP c E Q (tile i arg3 arg4 arg6 arg7 harg7 arg8 arg9 arg10 harg10 mask cvec t ht k) := by
  unfold tile
  refine loadQ_sp c E arg3 arg4 arg6 arg7 arg8 arg9 arg10 X3 X4 X6 K R t 0 ht _ _ ?_
  refine loadQ_sp c E arg3 arg4 arg6 arg7 arg8 arg9 arg10 X3 X4 X6 K R t 1 ht _ _ ?_
  refine loadQ_sp c E arg3 arg4 arg6 arg7 arg8 arg9 arg10 X3 X4 X6 K R t 2 ht _ _ ?_
  refine loadQ_sp c E arg3 arg4 arg6 arg7 arg8 arg9 arg10 X3 X4 X6 K R t 3 ht _ _ ?_
  refine pass1_sp c E arg3 arg4 arg6 arg7 arg8 arg9 arg10 X3 X4 X6 K R mask cvec _ (sCh mask cvec X4 K t) t
    (fun j hj => if_neg (by omega)) (if_pos rfl) _ (fun Y9 h9 => ?_) t 0 _ (by omega) X9 (fun _ h => absurd h (by omega))
  refine pass2_sp c E arg3 arg4 arg6 arg7 arg8 arg9 arg10 X3 X4 X6 K R _ (sCh mask cvec X4 K t) (eCh (sCh mask cvec X4 K t) t) (fun _ => rfl) t
    _ (fun Z9 h9' => ?_) t 0 _ (by omega) Y9 (fun _ h => absurd h (by omega)) (fun j' _ h => h9 j' h)
  refine pass3_sp c E arg3 arg4 arg6 arg7 arg8 arg9 arg10 harg10 X3 X4 X6 K R _ (eCh (sCh mask cvec X4 K t) t) t _ h9' (fun Y10 h10 => ?_)
    t 0 _ (by omega) X10 (fun _ h => absurd h (by omega))
  refine final_sp c E arg3 arg4 arg6 arg7 harg7 arg8 arg9 arg10 X3 X4 X6 K i R t ht (pCh (sCh mask cvec X4 K t) t) _ h10 ?_
  exact fun Y h1 h2 h3 => hk Y Z9 Y10 h1 h2 h3

/-- All tiles. -/
theorem tiles_sp {Q : PUnit.{1} → sProp 𝕄} (R : sProp 𝕄) (mask : IVec S128x512 1) (cvec : FVec F S1x512 .f32)
    (hk : ∀ Y Y9 Y10, (∀ t (ht : t < 16), oPiece Y t 0 = outLo (oTile i mask cvec X3 X4 X6 K t ht) ∧
        oPiece Y t 1 = outHi (oTile i mask cvec X3 X4 X6 K t ht)) →
      St c arg3 arg4 arg6 arg7 arg8 arg9 arg10 X3 X4 X6 K R Y Y9 Y10 ⊢ WP c E Q (.ret ⟨⟩)) :
    ∀ (n t : ℕ) (h : t + n ≤ 16), t + n = 16 → ∀ X7 X9 X10,
      (∀ t' (ht' : t' < 16), t' < t → oPiece X7 t' 0 = outLo (oTile i mask cvec X3 X4 X6 K t' ht') ∧
        oPiece X7 t' 1 = outHi (oTile i mask cvec X3 X4 X6 K t' ht')) →
    St c arg3 arg4 arg6 arg7 arg8 arg9 arg10 X3 X4 X6 K R X7 X9 X10 ⊢
      WP c E Q (tiles i arg3 arg4 arg6 arg7 harg7 arg8 arg9 arg10 harg10 mask cvec n t h)
  | 0, t, h, e, X7, X9, X10, hX => by
    unfold tiles
    exact hk X7 X9 X10 fun t' ht' => hX t' ht' (by omega)
  | n + 1, t, h, e, X7, X9, X10, hX => by
    unfold tiles
    refine tile_sp c E arg3 arg4 arg6 arg7 harg7 arg8 arg9 arg10 harg10 X3 X4 X6 K i R mask cvec t _ _ fun Y Y9 Y10 h1 h2 h3 => ?_
    refine tiles_sp R mask cvec hk n (t + 1) (by omega) (by omega) Y Y9 Y10 fun t' ht' hlt => ?_
    rcases Nat.eq_or_lt_of_le (Nat.lt_succ_iff.mp hlt) with rfl | hlt'
    · exact ⟨h1, h2⟩
    · rw [h3 t' 0 ht' (by omega) (by omega), h3 t' 1 ht' (by omega) (by omega)]; exact hX t' ht' hlt'

/-- A block whose 32 pieces are the tiles' is the output block. -/
theorem eq_outBlk (mask : IVec S128x512 1) (cvec : FVec F S1x512 .f32) (Y : Vec F S1x2048x256 .bf16)
    (h : ∀ t (ht : t < 16), oPiece Y t 0 = outLo (oTile i mask cvec X3 X4 X6 K t ht) ∧
        oPiece Y t 1 = outHi (oTile i mask cvec X3 X4 X6 K t ht)) : Y = outBlk i mask cvec X3 X4 X6 K := by
  funext x
  have h1 : (x 1).val < 2048 := (x 1).isLt
  have h2 : (x 2).val < 256 := (x 2).isLt
  unfold outBlk
  split
  · rw [← (h _ _).1]
    unfold oPiece
    refine congrArg Y ?_
    funext a; apply Fin.ext; fin_cases a
    · simp [ix3]
    · simp [ix3]; omega
    · simp [ix3]; omega
  · rw [← (h _ _).2]
    unfold oPiece
    refine congrArg Y ?_
    funext a; apply Fin.ext; fin_cases a
    · simp [ix3]
    · simp [ix3]; omega
    · simp [ix3]; omega

end

end Cert.KernelIdeal.Body
-- ==== Proof.Triple.lean ====
/- The body's triple: what one grid point leaves in its output block. -/
module

public import proofs.«01_k».proof.Proof.Run

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Idealize.ShloMosaic.ValueIdx

variable {F : FTy → Type} [FloatOps F] [Named F]

local notation "𝕄" => MT nD τ sig Unit (Elt F) ℕ (UR sig nD τ) ℕ

/-- The scores' factors: the scale of the block times log2 e. -/
def cvecOf (x : Vec F S1x1x512 .f32) : FVec F S1x512 .f32 :=
  mulf (shapeCast S1x512 x shapeCasts_S1x1x512_S1x512) (broadcast S1x512 (Named.named κ "log2e" 0x3FB8AA3B#32))

/-- A query's row number within its tile, one column per head and query. -/
def qRow : IVec S128x512 32 :=
  remsi (iota .tc S128x512 32 [1] iota_S128x512_d1_w32)
    (broadcast S128x512 (Scalar.select (Scalar.cmpi .eq 128#32 0#32) 1#32 128#32))

/-- Whether the truncated remainder has to be moved up (it never has). -/
def qFix : IVec S128x512 1 :=
  andi (xori (cmpi .slt qRow (broadcast S128x512 0#32))
    (broadcastTo S128x512 (broadcast S128x512 (Scalar.cmpi .slt (Scalar.select (Scalar.cmpi .eq 128#32 0#32) 1#32 128#32) 0#32)) broadcasts_S128x512_S128x512))
    (cmpi .ne qRow (broadcast S128x512 0#32))

/-- The diagonal chunk's mask: key row at most query row. -/
def diag : IVec S128x512 1 :=
  cmpi .sle (iota .tc S128x512 32 [0] iota_S128x512_d0_w32)
    (select qFix (addi qRow (broadcast S128x512 (Scalar.select (Scalar.cmpi .eq 128#32 0#32) 1#32 128#32))) qRow)

/-- The keys of the even head of a pair. -/
def keysA (X5 : Vec F S1x2048x128 .fp8e4m3) : Vec F S2048x64 .fp8e4m3 :=
  shapeCast S2048x64 (fun x => X5 ((Rect.unit (s := S1x2048x128) ![0, 0, 0] S1x2048x64.size inb_S1x2048x128_S1x2048x64_0_0_0).emb x)) shapeCasts_S1x2048x64_S2048x64

/-- The keys of the odd head of a pair. -/
def keysB (X5 : Vec F S1x2048x128 .fp8e4m3) : Vec F S2048x64 .fp8e4m3 :=
  shapeCast S2048x64 (fun x => X5 ((Rect.unit (s := S1x2048x128) ![0, 0, 64] S1x2048x64.size inb_S1x2048x128_S1x2048x64_0_0_64).emb x)) shapeCasts_S1x2048x64_S2048x64

section
variable (i : grid0.Coords) (arg2 : Memref sig .tc .vmem S1x1x512 .f32) (harg2 : arg2.IsWhole) (arg3 : Memref sig .tc .vmem S1x1x512 .f32) (harg3 : arg3.IsWhole)
  (arg4 : Memref sig .tc .vmem S1x2048x256 .fp8e4m3) (harg4 : arg4.IsWhole) (arg5 : Memref sig .tc .vmem S1x2048x128 .fp8e4m3) (harg5 : arg5.IsWhole)
  (arg6 : Memref sig .tc .vmem S1x128x2048 .fp8e4m3) (harg6 : arg6.IsWhole) (arg7 : Memref sig .tc .vmem S1x2048x256 .bf16) (harg7 : arg7.IsWhole)
  (arg8 : Memref sig .tc .vmem S2048x64 .fp8e4m3) (harg8 : arg8.IsWhole) (arg9 : Memref sig .tc .vmem S2048x512 .f32) (harg9 : arg9.IsWhole)
  (arg10 : Memref sig .tc .vmem S2048x512 .fp8e4m3) (harg10 : arg10.IsWhole)

/-- One half of a pair's keys copied. -/
def copyK (o : Fin 3 → ℕ) (ho : ∀ a, o a + S1x2048x64.size a ≤ S1x2048x128.size a) (k : ℙ F) : ℙ F :=
  .op (.load arg5 (Rect.unit (s := S1x2048x128) o S1x2048x64.size ho).toLoadRect (View.loadsAt_vmem h_S1x2048x64)) fun v =>
  .op (.load arg8 (Rect.unit (s := S2048x64) ![0, 0] S2048x64.size inb_S2048x64_S2048x64_0_0).toLoadRect (View.loadsAt_vmem h_S2048x64)) fun _ =>
  .op (.store arg8 (Rect.unit (s := S2048x64) ![0, 0] S2048x64.size inb_S2048x64_S2048x64_0_0)
    (shapeCast S2048x64 (shapeCast S2048x64 v shapeCasts_S1x2048x64_S2048x64) shapeCasts_S2048x64_S2048x64) Finset.univ
    (View.stores_vmem h_S2048x64 (harg8.storeExact_slice rfl _ packedfp8e4m3_S2048x64_S2048x64_0_0) (fun _ => rfl)) (.inl rfl)) fun _ => k

/-- The scale row read, then the 16 tiles. -/
def rest : ℙ F :=
  .op (.load arg2 (Rect.unit (s := S1x1x512) ![0, 0, 0] S1x1x512.size inb_S1x1x512_S1x1x512_0_0_0).toLoadRect (View.loadsAt_vmem h_S1x1x512)) fun x =>
  tiles i arg3 arg4 arg6 arg7 harg7 arg8 arg9 arg10 harg10 diag (cvecOf x) 16 0 (by omega)

set_option maxHeartbeats 1000000 in
theorem body_A (hc0 : cond0_0 i) (hc1 : ¬cond0_1 i) :
    cc0__attn_kernel (F := F) i arg2 harg2 arg3 harg3 arg4 harg4 arg5 harg5 arg6 harg6 arg7 harg7 arg8 harg8 arg9 harg9 arg10 harg10
      = copyK arg5 arg8 harg8 ![0, 0, 0] inb_S1x2048x128_S1x2048x64_0_0_0 (rest i arg2 arg3 arg4 arg6 arg7 harg7 arg8 arg9 arg10 harg10) := by
  rw [body_eq]
  unfold k0_part1
  simp only [dif_pos hc0, dif_neg hc1]
  rfl

set_option maxHeartbeats 1000000 in
theorem body_B (hc0 : ¬cond0_0 i) (hc1 : cond0_1 i) :
    cc0__attn_kernel (F := F) i arg2 harg2 arg3 harg3 arg4 harg4 arg5 harg5 arg6 harg6 arg7 harg7 arg8 harg8 arg9 harg9 arg10 harg10
      = copyK arg5 arg8 harg8 ![0, 0, 64] inb_S1x2048x128_S1x2048x64_0_0_64 (rest i arg2 arg3 arg4 arg6 arg7 harg7 arg8 arg9 arg10 harg10) := by
  rw [body_eq]
  unfold k0_part1
  simp only [dif_neg hc0, dif_pos hc1]
  rfl

variable (c : Dev nD) (E : Set ℕ)
  (x0 x1 : Vec F S1x1x512 .f32) (x2 : Vec F S1x2048x256 .fp8e4m3) (x3 : Vec F S1x2048x128 .fp8e4m3) (x4 : Vec F S1x128x2048 .fp8e4m3)

/-- What the body hands back, the output at `o`. -/
def post (o : Vec F S1x2048x256 .bf16) : sProp 𝕄 :=
  iprop(owns (c : Thread nD τ) arg2 fullShare x0 ∗ owns (c : Thread nD τ) arg3 fullShare x1 ∗ owns (c : Thread nD τ) arg4 fullShare x2
    ∗ owns (c : Thread nD τ) arg5 fullShare x3 ∗ owns (c : Thread nD τ) arg6 fullShare x4 ∗ owns (c : Thread nD τ) arg7 fullShare o
    ∗ (∃ d, owns (c : Thread nD τ) arg8 fullShare d) ∗ (∃ d, owns (c : Thread nD τ) arg9 fullShare d) ∗ (∃ d, owns (c : Thread nD τ) arg10 fullShare d))

/-- The scale row and the tiles. -/
theorem rest_sp {Q : PUnit.{1} → sProp 𝕄} (K : Vec F S2048x64 .fp8e4m3) {X7 X9 X10} :
    St c arg3 arg4 arg6 arg7 arg8 arg9 arg10 x1 x2 x4 K
      iprop((post arg2 arg3 arg4 arg5 arg6 arg7 arg8 arg9 arg10 c x0 x1 x2 x3 x4 (outBlk i diag (cvecOf x0) x1 x2 x4 K) -∗ Q ⟨⟩)
        ∗ owns (c : Thread nD τ) arg2 fullShare x0 ∗ owns (c : Thread nD τ) arg5 fullShare x3) X7 X9 X10
      ⊢ WP c E Q (rest i arg2 arg3 arg4 arg6 arg7 harg7 arg8 arg9 arg10 harg10) := by
  have e0 : (fun x => x0 ((Rect.unit (s := S1x1x512) ![0, 0, 0] S1x1x512.size inb_S1x1x512_S1x1x512_0_0_0).emb x)) = x0 := by
    funext x
    refine congrArg x0 ?_
    funext a; apply Fin.ext; fin_cases a <;> simp [Rect.emb_apply]
  unfold rest
  refine BIBase.Entails.trans (Q := iprop(St c arg3 arg4 arg6 arg7 arg8 arg9 arg10 x1 x2 x4 K
      iprop((post arg2 arg3 arg4 arg5 arg6 arg7 arg8 arg9 arg10 c x0 x1 x2 x3 x4 (outBlk i diag (cvecOf x0) x1 x2 x4 K) -∗ Q ⟨⟩)
        ∗ owns (c : Thread nD τ) arg5 fullShare x3) X7 X9 X10 ∗ owns (c : Thread nD τ) arg2 fullShare x0)) ?_ (ld arg2 ?_)
  · unfold St; iintro ⟨⟨Hk, H2, H5⟩, H⟩
    isplitr [H2]
    · isplitl [Hk H5]
      · isplitl [Hk]; · iexact Hk
        iexact H5
      iexact H
    iexact H2
  rw [e0]
  refine BIBase.Entails.trans (Q := St c arg3 arg4 arg6 arg7 arg8 arg9 arg10 x1 x2 x4 K
      iprop((post arg2 arg3 arg4 arg5 arg6 arg7 arg8 arg9 arg10 c x0 x1 x2 x3 x4 (outBlk i diag (cvecOf x0) x1 x2 x4 K) -∗ Q ⟨⟩)
        ∗ owns (c : Thread nD τ) arg2 fullShare x0 ∗ owns (c : Thread nD τ) arg5 fullShare x3) X7 X9 X10) ?_ ?_
  · unfold St; iintro ⟨⟨⟨Hk, H5⟩, H⟩, H2⟩
    isplitr [H]
    · isplitl [Hk]; · iexact Hk
      isplitl [H2]; · iexact H2
      iexact H5
    iexact H
  refine tiles_sp c E arg3 arg4 arg6 arg7 harg7 arg8 arg9 arg10 harg10 x1 x2 x4 K i _ diag (cvecOf x0) (fun Y Y9 Y10 h => ?_) 16 0 _ rfl X7 X9 X10
    (fun _ _ h => absurd h (by omega))
  obtain rfl := eq_outBlk x1 x2 x4 K i diag (cvecOf x0) Y h
  unfold St WP
  iintro ⟨⟨Hk, H2, H5⟩, H3, H4, H6, H8, H7, H9, H10⟩
  sl_step
  iapply Hk
  unfold post
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  iexists _; iexact H10

/-- The copy of the keys, the scale row and the tiles. -/
theorem copy_sp {Q : PUnit.{1} → sProp 𝕄} (o : Fin 3 → ℕ) (ho : ∀ a, o a + S1x2048x64.size a ≤ S1x2048x128.size a)
    (K : Vec F S2048x64 .fp8e4m3)
    (hK : K = shapeCast S2048x64 (fun x => x3 ((Rect.unit (s := S1x2048x128) o S1x2048x64.size ho).emb x)) shapeCasts_S1x2048x64_S2048x64) :
    iprop(owns (c : Thread nD τ) arg2 fullShare x0 ∗ owns (c : Thread nD τ) arg3 fullShare x1 ∗ owns (c : Thread nD τ) arg4 fullShare x2
      ∗ owns (c : Thread nD τ) arg5 fullShare x3 ∗ owns (c : Thread nD τ) arg6 fullShare x4 ∗ (∃ d, owns (c : Thread nD τ) arg7 fullShare d)
      ∗ (∃ d, owns (c : Thread nD τ) arg8 fullShare d) ∗ (∃ d, owns (c : Thread nD τ) arg9 fullShare d) ∗ (∃ d, owns (c : Thread nD τ) arg10 fullShare d)
      ∗ (post arg2 arg3 arg4 arg5 arg6 arg7 arg8 arg9 arg10 c x0 x1 x2 x3 x4 (outBlk i diag (cvecOf x0) x1 x2 x4 K) -∗ Q ⟨⟩))
      ⊢ WP c E Q (copyK arg5 arg8 harg8 o ho (rest i arg2 arg3 arg4 arg6 arg7 harg7 arg8 arg9 arg10 harg10)) := by
  iintro ⟨H2, H3, H4, H5, H6, ⟨%d7, H7⟩, ⟨%d8, H8⟩, ⟨%d9, H9⟩, ⟨%d10, H10⟩, Hk⟩
  let W : sProp 𝕄 := iprop((post arg2 arg3 arg4 arg5 arg6 arg7 arg8 arg9 arg10 c x0 x1 x2 x3 x4 (outBlk i diag (cvecOf x0) x1 x2 x4 K) -∗ Q ⟨⟩)
    ∗ owns (c : Thread nD τ) arg2 fullShare x0 ∗ owns (c : Thread nD τ) arg3 fullShare x1 ∗ owns (c : Thread nD τ) arg4 fullShare x2
    ∗ owns (c : Thread nD τ) arg6 fullShare x4 ∗ owns (c : Thread nD τ) arg7 fullShare d7 ∗ owns (c : Thread nD τ) arg9 fullShare d9 ∗ owns (c : Thread nD τ) arg10 fullShare d10)
  have h : iprop((W ∗ owns (c : Thread nD τ) arg8 fullShare d8) ∗ owns (c : Thread nD τ) arg5 fullShare x3)
      ⊢ WP c E Q (copyK arg5 arg8 harg8 o ho (rest i arg2 arg3 arg4 arg6 arg7 harg7 arg8 arg9 arg10 harg10)) := by
    refine ld arg5 ?_
    refine BIBase.Entails.trans (Q := iprop((W ∗ owns (c : Thread nD τ) arg5 fullShare x3) ∗ owns (c : Thread nD τ) arg8 fullShare d8)) ?_ (ld arg8 (st arg8 fun Y hY _ => ?_))
    · iintro ⟨⟨HW, H8⟩, H5⟩
      isplitr [H8]
      · isplitl [HW]; · iexact HW
        iexact H5
      iexact H8
    have eY : Y = K := by
      funext x
      have hx : (Rect.unit (s := S2048x64) ![0, 0] S2048x64.size inb_S2048x64_S2048x64_0_0).emb x = x := by
        funext a; apply Fin.ext; fin_cases a <;> simp [Rect.emb_apply]
      have := hY x
      rw [hx, shapeCast_self] at this
      rw [this, hK]
    subst eY
    refine BIBase.Entails.trans ?_ (rest_sp i arg2 arg3 arg4 arg5 arg6 arg7 harg7 arg8 arg9 arg10 harg10 c E x0 x1 x2 x3 x4 Y (X7 := d7) (X9 := d9) (X10 := d10))
    unfold St
    iintro ⟨⟨⟨Hk, H2, H3, H4, H6, H7, H9, H10⟩, H5⟩, H8⟩
    isplitl [Hk H2 H5]
    · isplitl [Hk]; · iexact Hk
      isplitl [H2]; · iexact H2
      iexact H5
    isplitl [H3]; · iexact H3
    isplitl [H4]; · iexact H4
    isplitl [H6]; · iexact H6
    isplitl [H8]; · iexact H8
    isplitl [H7]; · iexact H7
    isplitl [H9]; · iexact H9
    iexact H10
  iapply h
  isplitr [H5]
  · isplitr [H8]
    · isplitl [Hk]; · iexact Hk
      isplitl [H2]; · iexact H2
      isplitl [H3]; · iexact H3
      isplitl [H4]; · iexact H4
      isplitl [H6]; · iexact H6
      isplitl [H7]; · iexact H7
      isplitl [H9]; · iexact H9
      iexact H10
    iexact H8
  iexact H5

end

end Cert.KernelIdeal.Body
-- ==== Proof.TileOps.lean ====
/- The kernel's tile operations at an index. -/
module

public import proofs.«01_k».proof.Proof.Spec
public import proofs.«01_k».proof.Proof.Triple
public import Idealize.ShloMosaic.Lib.MatmulPlain

@[expose] public section

noncomputable section

namespace Cert.KernelIdeal.Body

open Cert.KernelIdeal Cert.KernelIdeal.Gen Idealize.ShloMosaic Cert.Attn

theorem scores_apply (cv : FVec Ideal S1x512 .f32) (q : FVec Ideal S512x64 .fp8e4m3) (ks : Vec Ideal S128x64 .fp8e4m3) (k : Fin 128) (c : Fin 512) :
    scores cv q ks (ix2 k c) = (∑ x : Fin 64, ks (ix2 k x) * q (ix2 c x)) * cv (ix2 0 c) := by
  pointwise [scores]

theorem masked_apply (mk : IVec S128x512 1) (s : FVec Ideal S128x512 .f32) (k : Fin 128) (c : Fin 512) :
    masked mk s (ix2 k c) = Scalar.select (mk (ix2 k c)) (s (ix2 k c)) ⊥ := by
  pointwise [masked]
  rw [cbot]

theorem expo_apply (mx : FVec Ideal S1x512 .f32) (s : FVec Ideal S128x512 .f32) (k : Fin 128) (c : Fin 512) :
    expo mx s (ix2 k c) = Ideal.exp2 (s (ix2 k c) - mx (ix2 0 c)) := by
  pointwise [expo]
  rfl

theorem recip_apply (l : FVec Ideal S1x512 .f32) (c : Fin 512) : recip l (ix2 0 c) = Ideal.div ((256 : ℝ) : EReal) (l (ix2 0 c)) := by
  pointwise [recip]
  rw [c256]

theorem codes_apply (r : FVec Ideal S1x512 .f32) (e : FVec Ideal S128x512 .f32) (k : Fin 128) (c : Fin 512) :
    codes r e (ix2 k c) = clip (e (ix2 k c) * r (ix2 0 c)) := by
  pointwise [codes]
  rw [c448, cm448]
  rfl

theorem chunkSum_apply (e : FVec Ideal S128x512 .f32) (y : Fin 8) (c : Fin 512) :
    chunkSum e (ix2 y c) = ∑ u : Fin 16, e (ix2 ⟨u.val * 8 + y.val, by omega⟩ c) := by
  pointwise [chunkSum]

theorem foldSum_apply (l : FVec Ideal S8x512 .f32) (c : Fin 512) : foldSum l (ix2 0 c) = ∑ y : Fin 8, l (ix2 y c) := by
  pointwise [foldSum]

/-- A maximum down the first of three axes, at any extents. -/
theorem max3 {n0 n1 n2 : ℕ} (s : FVec Ideal (⟨3, ![n0, n1, n2]⟩ : Shape) .f32) (acc : BitVec FTy.f32.bits)
    (h : (⟨3, ![n0, n1, n2]⟩ : Shape).Reduces [0] ⟨2, ![n1, n2]⟩) (hφ : FKind.Formats .f32)
    (hacc : acc = FKind.maximumf.neutral .f32 hφ) (a : Fin n1) (b : Fin n2) :
    multiReduction .maximumf [0] ⟨2, ![n1, n2]⟩ s acc h hφ hacc (ix2 a b)
      = Finset.univ.fold max (Ideal.ofBits .f32 acc) fun k : Fin n0 => s (ix3 k a b) := by
  rw [multiReduction_maximumf_eq_fold, Shape.Reduces.fold_fiber_r3_a0]
  rfl

/-- A maximum down the first of two axes, at any extents. -/
theorem max2 {n0 n1 : ℕ} (s : FVec Ideal (⟨2, ![n0, n1]⟩ : Shape) .f32) (acc : BitVec FTy.f32.bits)
    (h : (⟨2, ![n0, n1]⟩ : Shape).Reduces [0] ⟨1, ![n1]⟩) (hφ : FKind.Formats .f32)
    (hacc : acc = FKind.maximumf.neutral .f32 hφ) (a : Fin n1) :
    multiReduction .maximumf [0] ⟨1, ![n1]⟩ s acc h hφ hacc (ix1 a)
      = Finset.univ.fold max (Ideal.ofBits .f32 acc) fun k : Fin n0 => s (ix2 k a) := by
  rw [multiReduction_maximumf_eq_fold, Shape.Reduces.fold_fiber_r2_a0]
  rfl

theorem cast3_apply (s : FVec Ideal S128x512 .f32) (u : Fin 16) (y : Fin 8) (c : Fin 512) :
    (shapeCast S16x8x512 s shapeCasts_S128x512_S16x8x512 : FVec Ideal S16x8x512 .f32) (ix3 u y c) = s (ix2 ⟨u.val * 8 + y.val, by omega⟩ c) := by
  pointwise

theorem cast1_apply (s : FVec Ideal S512 .f32) (c : Fin 512) :
    (shapeCast S1x512 s shapeCasts_S512_S1x512 : FVec Ideal S1x512 .f32) (ix2 0 c) = s (ix1 c) := by
  pointwise

theorem chunkMax_apply (e : FVec Ideal S128x512 .f32) (y : Fin 8) (c : Fin 512) :
    chunkMax e (ix2 y c) = Finset.univ.fold max ⊥ fun u : Fin 16 => e (ix2 ⟨u.val * 8 + y.val, by omega⟩ c) := by
  unfold chunkMax
  refine (max3 _ _ _ _ _ y c).trans ?_
  rw [cbot]
  exact congrArg (fun F => Finset.univ.fold max ⊥ F) (funext fun u => cast3_apply e u y c)

theorem foldMax_apply (l : FVec Ideal S8x512 .f32) (c : Fin 512) : foldMax l (ix2 0 c) = Finset.univ.fold max ⊥ fun y : Fin 8 => l (ix2 y c) := by
  unfold foldMax
  rw [cast1_apply]
  refine (max2 _ _ _ _ _ c).trans ?_
  rw [cbot]

theorem outLo_apply (o : FVec Ideal S64x512 .f32) (r l : Fin 128) :
    outLo o (ix3 0 r l) = o (ix2 ⟨l.val % 64, by omega⟩ ⟨l.val / 64 * 128 + r.val, by omega⟩) := by
  pointwise [outLo]
  split
  all_goals refine congrArg o ?_; congr 1 <;> (apply Fin.ext; simp only []; omega)

theorem outHi_apply (o : FVec Ideal S64x512 .f32) (r l : Fin 128) :
    outHi o (ix3 0 r l) = o (ix2 ⟨l.val % 64, by omega⟩ ⟨256 + l.val / 64 * 128 + r.val, by omega⟩) := by
  pointwise [outHi]
  split
  all_goals refine congrArg o ?_; congr 1 <;> (apply Fin.ext; simp only []; omega)

/-- The stacked queries at column `128 h + r`: head `h`'s row `r`. -/
theorem qStack_apply (P : ℕ → Vec Ideal S1x128x64 .fp8e4m3) (h : Fin 4) (r : Fin 128) (x : Fin 64) :
    qStack (P 0) (P 1) (P 2) (P 3) (ix2 ⟨128 * h.val + r.val, by omega⟩ x) = P h.val (ix3 0 r x) := by
  pointwise [qStack]
  fin_cases h
  · rw [dif_pos (by simp)]
    simp
  · rw [dif_neg (by simp), dif_pos (by simp)]
    simp
  · rw [dif_neg (by simp; omega), dif_neg (by simp; omega), dif_pos (by simp; omega)]
    refine congrArg (P 2) ?_; congr 1; apply Fin.ext; simp; omega
  · rw [dif_neg (by simp; omega), dif_neg (by simp; omega), dif_neg (by simp; omega)]
    refine congrArg (P 3) ?_; congr 1; apply Fin.ext; simp; omega

theorem cvecOf_apply (x : Vec Ideal S1x1x512 .f32) (c : Fin 512) : cvecOf x (ix2 0 c) = x (ix3 0 0 c) * (lg : EReal) := by
  pointwise [cvecOf]
  refine congrArg (x (ix3 0 0 c) * ·) ?_
  exact IdealRules.named_const.ideal_named_scalar _ _ _ _ rfl

/-- The query row of a column, as the kernel computes it. -/
theorem row_word : ∀ c : Fin 512, qRow (ix2 0 c) = BitVec.ofNat 32 (c.val % 128) ∧ qFix (ix2 0 c) = 0#1 := by
  decide +kernel

theorem row_word' (k : Fin 128) (c : Fin 512) : qRow (ix2 k c) = qRow (ix2 0 c) ∧ qFix (ix2 k c) = qFix (ix2 0 c) := by
  constructor <;> rfl

theorem diag_apply (k : Fin 128) (c : Fin 512) : diag (ix2 k c) = IntOp.cmpi .sle (BitVec.ofNat 32 k.val) (BitVec.ofNat 32 (c.val % 128)) := by
  rw [← (row_word c).1, ← (row_word' k c).1]
  have h : qFix (ix2 k c) = 0#1 := (row_word' k c).2.trans (row_word c).2
  pointwise [diag]
  rw [h]
  rfl

theorem keysA_apply (X : Vec Ideal S1x2048x128 .fp8e4m3) (k : Fin 2048) (x : Fin 64) : keysA X (ix2 k x) = X (ix3 0 k ⟨x.val, by omega⟩) := by
  pointwise [keysA]
  refine congrArg X ?_
  funext a; apply Fin.ext; fin_cases a <;> simp [Rect.emb_apply]

theorem keysB_apply (X : Vec Ideal S1x2048x128 .fp8e4m3) (k : Fin 2048) (x : Fin 64) : keysB X (ix2 k x) = X (ix3 0 k ⟨64 + x.val, by omega⟩) := by
  pointwise [keysB]
  refine congrArg X ?_
  funext a; apply Fin.ext; fin_cases a <;> simp [Rect.emb_apply]

theorem dotT_plain (t : ℕ) (ht : t < 16) : dotT t ht = DotDims.plain 64 (128 * (t + 1)) 512 := rfl

end Cert.KernelIdeal.Body
-- ==== Proof.TileValue.lean ====
/- A tile of the kernel at an index, as the row mathematics. -/
module

public import proofs.«01_k».proof.Proof.TileOps

@[expose] public section

noncomputable section

namespace Cert.KernelIdeal.Body

open Cert.KernelIdeal Cert.KernelIdeal.Gen Idealize.ShloMosaic Cert.Attn Finset

/-- Row `r` of head `h`, in the columns of a tile. -/
def colOf (h : Fin 4) (r : Fin 128) : Fin 512 := ⟨128 * h.val + r.val, by omega⟩

/-! ### Maxima and sums over the chunks -/

section chunks
variable (f : ℕ → FVec Ideal S128x512 .f32) (s : ℕ → EReal) (c : Fin 512)

theorem chunkMax_le (e : FVec Ideal S128x512 .f32) (y : Fin 8) (z : EReal) :
    chunkMax e (ix2 y c) ≤ z ↔ ∀ u : Fin 16, e (ix2 ⟨u.val * 8 + y.val, by omega⟩ c) ≤ z := by
  rw [chunkMax_apply, Finset.fold_max_le]
  simp

theorem mAt_le (y : Fin 8) (z : EReal) : ∀ t : ℕ, mAt f t (ix2 y c) ≤ z ↔
    ∀ j ≤ t, ∀ u : Fin 16, f j (ix2 ⟨u.val * 8 + y.val, by omega⟩ c) ≤ z
  | 0 => by
    show chunkMax (f 0) (ix2 y c) ≤ z ↔ _
    rw [chunkMax_le]
    constructor
    · intro h j hj; obtain rfl : j = 0 := by omega
      exact h
    · intro h; exact h 0 le_rfl
  | t + 1 => by
    show max (mAt f t (ix2 y c)) (chunkMax (f (t + 1)) (ix2 y c)) ≤ z ↔ _
    rw [max_le_iff, mAt_le y z t, chunkMax_le]
    constructor
    · rintro ⟨h1, h2⟩ j hj
      rcases Nat.eq_or_lt_of_le hj with rfl | hlt
      · exact h2
      · exact h1 j (by omega)
    · intro h
      exact ⟨fun j hj => h j (by omega), h (t + 1) le_rfl⟩

/-- The maximum over the chunks up to `t` is the largest of their scores. -/
theorem foldMax_top (t : ℕ) (hf : ∀ j ≤ t, ∀ k : Fin 128, f j (ix2 k c) = s (128 * j + k.val)) :
    foldMax (mAt f t) (ix2 0 c) = top s (128 * (t + 1)) := by
  refine eq_of_forall_ge_iff fun z => ?_
  rw [foldMax_apply, Finset.fold_max_le]
  unfold top
  rw [Finset.sup_le_iff]
  constructor
  · rintro ⟨-, h⟩ k hk
    have hk' := mem_range.mp hk
    have h1 := (mAt_le f c ⟨k % 8, by omega⟩ z t).mp (h _ (mem_univ _)) (k / 128) (by omega) ⟨k % 128 / 8, by omega⟩
    rw [hf _ (by omega)] at h1
    have e : 128 * (k / 128) + (k % 128 / 8 * 8 + k % 8) = k := by omega
    rw [← e]; exact h1
  · intro h
    refine ⟨bot_le, fun y _ => (mAt_le f c y z t).mpr fun j hj u => ?_⟩
    rw [hf j hj]
    exact h _ (mem_range.mpr (by show 128 * j + (u.val * 8 + y.val) < _; omega))

theorem lAt_apply (y : Fin 8) : ∀ t : ℕ, lAt f t (ix2 y c) = ∑ j ∈ range (t + 1), ∑ u : Fin 16, f j (ix2 ⟨u.val * 8 + y.val, by omega⟩ c)
  | 0 => by
    show chunkSum (f 0) (ix2 y c) = _
    rw [chunkSum_apply, Finset.sum_range_one]
  | t + 1 => by
    show lAt f t (ix2 y c) + chunkSum (f (t + 1)) (ix2 y c) = _
    rw [lAt_apply y t, chunkSum_apply, Finset.sum_range_succ _ (t + 1)]

/-- The sum over the chunks up to `t`. -/
theorem foldSum_sum (t : ℕ) (hf : ∀ j ≤ t, ∀ k : Fin 128, f j (ix2 k c) = s (128 * j + k.val)) :
    foldSum (lAt f t) (ix2 0 c) = ∑ k ∈ range (128 * (t + 1)), s k := by
  rw [foldSum_apply, ← sum_groups]
  simp only [lAt_apply]
  rw [Finset.sum_comm]
  refine Finset.sum_congr rfl fun j hj => ?_
  have hj' : j ≤ t := by have := mem_range.mp hj; omega
  have e : ∑ u ∈ range 16, ∑ r ∈ range 8, s (128 * j + (8 * u + r)) = ∑ i ∈ range 128, s (128 * j + i) := sum_groups (fun i => s (128 * j + i)) 8 16
  rw [Finset.sum_comm, ← e, Finset.sum_range]
  refine Finset.sum_congr rfl fun u _ => ?_
  rw [Finset.sum_range]
  refine Finset.sum_congr rfl fun y _ => ?_
  rw [hf j hj']
  refine congrArg s ?_
  show 128 * j + (u.val * 8 + y.val) = 128 * j + (8 * u.val + y.val)
  omega

/-- The codes of the chunks up to `t`. -/
theorem pCh_apply (t : ℕ) (hf : ∀ j ≤ t, ∀ k : Fin 128, f j (ix2 k c) = s (128 * j + k.val)) (j : ℕ) (hj : j ≤ t) (k : Fin 128) :
    pCh f t j (ix2 k c) = kCode s (128 * (t + 1)) (128 * j + k.val) := by
  have he : ∀ j ≤ t, ∀ k : Fin 128, eCh f t j (ix2 k c) = kE s (128 * (t + 1)) (128 * j + k.val) := by
    intro j hj k
    unfold eCh kE
    rw [expo_apply, foldMax_top f s c t hf, hf j hj]
  unfold pCh kCode
  rw [codes_apply, recip_apply, he j hj, foldSum_sum _ (kE s (128 * (t + 1))) c t he]
  rfl

end chunks

/-! ### A tile -/

section tiles
variable (cv : FVec Ideal S1x512 .f32) (X3 : Vec Ideal S1x1x512 .f32) (X4 : Vec Ideal S1x2048x256 .fp8e4m3) (X6 : Vec Ideal S1x128x2048 .fp8e4m3)
  (K : Vec Ideal S2048x64 .fp8e4m3) (i : grid0.Coords)

/-- Query `q` of head `h` of the block against key `k`. -/
def blkA (h : Fin 4) (q : Fin 2048) (k : ℕ) : EReal :=
  ∑ x : Fin 64, K (ix2 (pos k) x) * X4 (ix3 0 q ⟨64 * h.val + x.val, by omega⟩)

/-- Lane `d` of key `k`'s value in the block. -/
def blkV (d : Fin 64) (k : ℕ) : EReal := X6 (ix3 0 ⟨64 * ((i 1).val % 2) + d.val, by omega⟩ (pos k))

/-- The scores of a tile. -/
theorem sCh_apply (t : ℕ) (ht : t < 16) (h : Fin 4) (r : Fin 128) (j : ℕ) (hj : j ≤ t) (k : Fin 128) :
    sCh diag cv X4 K t j (ix2 k (colOf h r))
      = sc (blkA X4 K h ⟨128 * t + r.val, by omega⟩) (cv (ix2 0 (colOf h r))) (128 * t + r.val) (128 * j + k.val) := by
  have hs : scores cv (qStack (qPiece X4 t 0) (qPiece X4 t 1) (qPiece X4 t 2) (qPiece X4 t 3)) (rowsK K j) (ix2 k (colOf h r))
      = blkA X4 K h ⟨128 * t + r.val, by omega⟩ (128 * j + k.val) * cv (ix2 0 (colOf h r)) := by
    rw [scores_apply]
    refine congrArg (· * _) (Finset.sum_congr rfl fun x _ => ?_)
    refine congrArg₂ (· * ·) rfl ((qStack_apply (qPiece X4 t) h r x).trans ?_)
    unfold qPiece
    refine congrArg X4 ?_
    funext a; apply Fin.ext; fin_cases a
    · rfl
    · show (128 * t + r.val) % 2048 = 128 * t + r.val; omega
    · show (64 * h.val + x.val) % 256 = 64 * h.val + x.val; omega
  unfold sCh
  by_cases e : j = t
  · subst e
    rw [if_pos rfl, masked_apply, diag_apply, hs,
      show (colOf h r).val % 128 = r.val by show (128 * h.val + r.val) % 128 = r.val; omega, select_sle _ _ (by omega) (by omega)]
    unfold sc
    exact if_congr (by omega) rfl rfl
  · rw [if_neg e, hs]
    unfold sc
    rw [if_pos (by omega)]

theorem off16 : ∀ p : Fin 8, ∀ i0 : Fin 8, ∀ i : grid0.Coords, (i 1).val = p.val → k0_off16 i = ![0, 64 * (p.val % 2), 0] := by
  intro p _ i h
  unfold k0_off16
  rw [h]
  clear h i
  revert p
  decide +kernel

theorem vPiece_apply (t : ℕ) (ht : t < 16) (d : Fin 64) (x : Fin (128 * (t + 1))) :
    vPiece X6 i t ht (ix3 0 d x) = blkV X6 i d x.val := by
  unfold vPiece blkV
  refine congrArg X6 ?_
  have h := off16 (i 1) 0 i rfl
  funext a; apply Fin.ext; fin_cases a
  · show k0_off16 i 0 + 1 * 0 = 0; rw [h]; rfl
  · show k0_off16 i 1 + 1 * d.val = 64 * ((i 1).val % 2) + d.val; rw [h]; simp
  · show k0_off16 i 2 + 1 * x.val = x.val % 2048; rw [h]; simp; omega

theorem castV_apply (t : ℕ) (ht : t < 16) (v : Vec Ideal (shV3 t) .fp8e4m3) (d : Fin 64) (k : Fin (128 * (t + 1))) :
    shapeCast (shV t) v (castV t ht) (ix2 d k) = v (ix3 0 d k) := by
  refine (shapeCast_dropUnit_apply ![64, 128 * (t + 1)] v (castV t ht) (ix2 d k)).trans (congrArg v ?_)
  funext a; fin_cases a <;> rfl

/-- A tile's result. -/
theorem oTile_apply (t : ℕ) (ht : t < 16) (h : Fin 4) (r : Fin 128) (d : Fin 64) :
    oTile i diag cv X3 X4 X6 K t ht (ix2 d (colOf h r))
      = (∑ k ∈ range (128 * (t + 1)), blkV X6 i d k
          * kCode (sc (blkA X4 K h ⟨128 * t + r.val, by omega⟩) (cv (ix2 0 (colOf h r))) (128 * t + r.val)) (128 * (t + 1)) k)
        * X3 (ix3 0 0 (colOf h r)) := by
  unfold oTile tileOut
  have e1 : broadcastTo S64x512 (shapeCast S1x512 X3 shapeCasts_S1x1x512_S1x512) broadcasts_S1x512_S64x512 (ix2 d (colOf h r))
      = X3 (ix3 0 0 (colOf h r)) := by
    pointwise
  refine (congrArg₂ (· * ·) ?_ e1)
  rw [dotT_plain]
  refine (Ideal.matmul_plain_apply _ _ _ _ _ _).trans ?_
  have e0 : (constant S64x512 .f32 0x00000000#32 : FVec Ideal S64x512 .f32) (ix2 d (colOf h r)) = 0 := by
    pointwise
  refine (congrArg₂ (· + ·) e0 (Eq.trans ?_ (Finset.sum_range _).symm)).trans (zero_add _)
  refine Finset.sum_congr rfl fun k _ => ?_
  refine congrArg₂ (· * ·) ((castV_apply t ht _ d k).trans (vPiece_apply X6 i t ht d k)) ?_
  unfold stackC
  have hk : k.val < 128 * (t + 1) := k.isLt
  have hp := pCh_apply (sCh diag cv X4 K t) (sc (blkA X4 K h ⟨128 * t + r.val, by omega⟩) (cv (ix2 0 (colOf h r))) (128 * t + r.val)) (colOf h r) t
    (fun j hj x => sCh_apply cv X4 K t ht h r j hj x) (k.val / 128) (by omega) ⟨k.val % 128, Nat.mod_lt _ (by decide)⟩
  rw [show 128 * (k.val / 128) + k.val % 128 = k.val by omega] at hp
  exact hp

/-- The output block. -/
theorem outBlk_apply (q : Fin 2048) (c : Fin 256) :
    outBlk i diag cv X3 X4 X6 K (ix3 0 q c)
      = (∑ k ∈ range (128 * (q.val / 128 + 1)), blkV X6 i ⟨c.val % 64, by omega⟩ k
          * kCode (sc (blkA X4 K ⟨c.val / 64, by omega⟩ q) (cv (ix2 0 (colOf ⟨c.val / 64, by omega⟩ ⟨q.val % 128, by omega⟩))) q.val) (128 * (q.val / 128 + 1)) k)
        * X3 (ix3 0 0 (colOf ⟨c.val / 64, by omega⟩ ⟨q.val % 128, by omega⟩)) := by
  have h := oTile_apply cv X3 X4 X6 K i (q.val / 128) (by omega) ⟨c.val / 64, by omega⟩ ⟨q.val % 128, by omega⟩ ⟨c.val % 64, by omega⟩
  have e : 128 * (q.val / 128) + q.val % 128 = q.val := by omega
  simp only [e] at h
  refine Eq.trans ?_ h
  unfold outBlk
  by_cases hc : c.val < 128
  · refine (if_pos hc).trans ((outLo_apply _ ⟨q.val % 128, by omega⟩ ⟨c.val % 128, by omega⟩).trans ?_)
    refine congrArg _ ?_
    congr 1 <;> apply Fin.ext <;> simp [colOf] <;> omega
  · refine (if_neg hc).trans ((outHi_apply _ ⟨q.val % 128, by omega⟩ ⟨c.val % 128, by omega⟩).trans ?_)
    refine congrArg _ ?_
    congr 1 <;> apply Fin.ext <;> simp [colOf] <;> omega

end tiles

end Cert.KernelIdeal.Body
-- ==== Proof.ValueRun.lean ====
/- The kernel's run, its result named block by block. -/
module

public import proofs.«01_k».proof.Proof.Triple
public import Idealize.ShloMosaic.Lib.Claim
public import Idealize.ShloMosaic.Lib.Pipeline.Value

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The keys a point's head reads: the half of the pair its parity names. -/
def keysAt (c : Dev nD) (t : Fin cfg0.N) : Vec F S2048x64 .fp8e4m3 :=
  if t.val % 2 = 0 then keysA (iblk m c 3 t) else keysB (iblk m c 3 t)

/-- What a point leaves in its output block. -/
def outAt (c : Dev nD) (t : Fin cfg0.N) : Vec F S1x2048x256 .bf16 :=
  outBlk (grid0.coords t) diag (cvecOf (iblk m c 0 t)) (iblk m c 1 t) (iblk m c 2 t) (iblk m c 4 t) (keysAt m c t)

/-- The pipeline's proof data, the output at `outAt`. -/
def vdats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ _ := Pipeline.ΦA spec0 c
  q _ := fullShare
  owed _ := 0

theorem vA_eq (c : Dev nD) (w : Fin cfg0.W) : (vdats m 0 c).A w = V m c (Pipeline.arrRef spec0 w) := by
  dsimp only [vdats]

theorem vafter0 (c : Dev nD) (t : Fin cfg0.N) : (vdats m 0 c).after 0 t = iblk m c 0 t := by dsimp only [vdats]
theorem vafter1 (c : Dev nD) (t : Fin cfg0.N) : (vdats m 0 c).after 1 t = iblk m c 1 t := by dsimp only [vdats]
theorem vafter2 (c : Dev nD) (t : Fin cfg0.N) : (vdats m 0 c).after 2 t = iblk m c 2 t := by dsimp only [vdats]
theorem vafter3 (c : Dev nD) (t : Fin cfg0.N) : (vdats m 0 c).after 3 t = iblk m c 3 t := by dsimp only [vdats]
theorem vafter4 (c : Dev nD) (t : Fin cfg0.N) : (vdats m 0 c).after 4 t = iblk m c 4 t := by dsimp only [vdats]
theorem vafter5 (c : Dev nD) (t : Fin cfg0.N) : (vdats m 0 c).after 5 t = outAt m c t := by dsimp only [vdats]

theorem vbefore0 (c : Dev nD) (t : Fin cfg0.N) (d) : (vdats m 0 c).before 0 t d = iblk m c 0 t :=
  before0_0_of m (vdats m 0 c) (vA_eq m c 0) (vafter0 m c) t d
theorem vbefore1 (c : Dev nD) (t : Fin cfg0.N) (d) : (vdats m 0 c).before 1 t d = iblk m c 1 t :=
  before0_1_of m (vdats m 0 c) (vA_eq m c 1) (vafter1 m c) t d
theorem vbefore2 (c : Dev nD) (t : Fin cfg0.N) (d) : (vdats m 0 c).before 2 t d = iblk m c 2 t :=
  before0_2_of m (vdats m 0 c) (vA_eq m c 2) (vafter2 m c) t d
theorem vbefore3 (c : Dev nD) (t : Fin cfg0.N) (d) : (vdats m 0 c).before 3 t d = iblk m c 3 t :=
  before0_3_of m (vdats m 0 c) (vA_eq m c 3) (vafter3 m c) t d
theorem vbefore4 (c : Dev nD) (t : Fin cfg0.N) (d) : (vdats m 0 c).before 4 t d = iblk m c 4 t :=
  before0_4_of m (vdats m 0 c) (vA_eq m c 4) (vafter4 m c) t d

/-- What the body is called with at a point. -/
def vPre (c : Dev nD) (t : Fin cfg0.N) : sProp 𝕄 :=
  iprop((vdats m 0 c).Φ t.castSucc ∗ (vdats m 0 c).owesAt () t.castSucc
    ∗ (∃ d, owns (c : Thread nD τ) (ms0_0 t) fullShare ((vdats m 0 c).before 0 t d))
    ∗ (∃ d, owns (c : Thread nD τ) (ms0_1 t) fullShare ((vdats m 0 c).before 1 t d))
    ∗ (∃ d, owns (c : Thread nD τ) (ms0_2 t) fullShare ((vdats m 0 c).before 2 t d))
    ∗ (∃ d, owns (c : Thread nD τ) (ms0_3 t) fullShare ((vdats m 0 c).before 3 t d))
    ∗ (∃ d, owns (c : Thread nD τ) (ms0_4 t) fullShare ((vdats m 0 c).before 4 t d))
    ∗ (∃ d, owns (c : Thread nD τ) (ms0_5 t) fullShare ((vdats m 0 c).before 5 t d)))

/-- What it hands back. -/
def vPost (c : Dev nD) (t : Fin cfg0.N) : sProp 𝕄 :=
  iprop((vdats m 0 c).Φ t.succ ∗ (vdats m 0 c).owesAt () t.succ
    ∗ owns (c : Thread nD τ) (ms0_0 t) fullShare ((vdats m 0 c).after 0 t)
    ∗ owns (c : Thread nD τ) (ms0_1 t) fullShare ((vdats m 0 c).after 1 t)
    ∗ owns (c : Thread nD τ) (ms0_2 t) fullShare ((vdats m 0 c).after 2 t)
    ∗ owns (c : Thread nD τ) (ms0_3 t) fullShare ((vdats m 0 c).after 3 t)
    ∗ owns (c : Thread nD τ) (ms0_4 t) fullShare ((vdats m 0 c).after 4 t)
    ∗ owns (c : Thread nD τ) (ms0_5 t) fullShare ((vdats m 0 c).after 5 t))

theorem keysA_eq (X5 : Vec F S1x2048x128 .fp8e4m3) :
    keysA X5 = shapeCast S2048x64 (fun x => X5 ((Rect.unit (s := S1x2048x128) ![0, 0, 0] S1x2048x64.size inb_S1x2048x128_S1x2048x64_0_0_0).emb x)) shapeCasts_S1x2048x64_S2048x64 := rfl
theorem keysB_eq (X5 : Vec F S1x2048x128 .fp8e4m3) :
    keysB X5 = shapeCast S2048x64 (fun x => X5 ((Rect.unit (s := S1x2048x128) ![0, 0, 64] S1x2048x64.size inb_S1x2048x128_S1x2048x64_0_0_64).emb x)) shapeCasts_S1x2048x64_S2048x64 := rfl

/-- The body at a point, whichever half of the keys it copies. -/
theorem point_sp {Q : PUnit.{1} → sProp 𝕄} (c : Dev nD) (t : Fin cfg0.N) :
    iprop(owns (c : Thread nD τ) (ms0_0 t) fullShare (iblk m c 0 t) ∗ owns (c : Thread nD τ) (ms0_1 t) fullShare (iblk m c 1 t)
      ∗ owns (c : Thread nD τ) (ms0_2 t) fullShare (iblk m c 2 t)
      ∗ owns (c : Thread nD τ) (ms0_3 t) fullShare (iblk m c 3 t) ∗ owns (c : Thread nD τ) (ms0_4 t) fullShare (iblk m c 4 t)
      ∗ (∃ d, owns (c : Thread nD τ) (ms0_5 t) fullShare d)
      ∗ (∃ d, owns (c : Thread nD τ) scM0_0 fullShare d) ∗ (∃ d, owns (c : Thread nD τ) scM0_1 fullShare d) ∗ (∃ d, owns (c : Thread nD τ) scM0_2 fullShare d)
      ∗ (post (ms0_0 t) (ms0_1 t) (ms0_2 t) (ms0_3 t) (ms0_4 t) (ms0_5 t) scM0_0 scM0_1 scM0_2 c
          (iblk m c 0 t) (iblk m c 1 t) (iblk m c 2 t) (iblk m c 3 t) (iblk m c 4 t) (outAt m c t) -∗ Q ⟨⟩))
      ⊢ WP c Set.univ Q (bodyAt0 t) := by
  by_cases h0 : t.val % 2 = 0
  · have hk : keysAt m c t = keysA (iblk m c 3 t) := by unfold keysAt; rw [if_pos h0]
    have e : bodyAt0 (F := F) t = copyK (ms0_3 t) scM0_0 (Memref.isWhole_whole _) ![0, 0, 0] inb_S1x2048x128_S1x2048x64_0_0_0
        (rest (grid0.coords t) (ms0_0 t) (ms0_1 t) (ms0_2 t) (ms0_4 t) (ms0_5 t) (hs0_5 t) scM0_0 scM0_1 scM0_2 (Memref.isWhole_whole _)) :=
      body_A (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _)
        ((hcond0_0 t).mpr h0) (fun h => by have := (hcond0_1 t).mp h; omega)
    rw [e]
    unfold outAt; rw [hk]
    exact copy_sp (grid0.coords t) (ms0_0 t) (ms0_1 t) (ms0_2 t) (ms0_3 t) (ms0_4 t) (ms0_5 t) (hs0_5 t) scM0_0 (Memref.isWhole_whole _) scM0_1 scM0_2
      (Memref.isWhole_whole _) c Set.univ (iblk m c 0 t) (iblk m c 1 t) (iblk m c 2 t) (iblk m c 3 t) (iblk m c 4 t) _ _ (keysA (iblk m c 3 t)) (keysA_eq _)
  · have hk : keysAt m c t = keysB (iblk m c 3 t) := by unfold keysAt; rw [if_neg h0]
    have e : bodyAt0 (F := F) t = copyK (ms0_3 t) scM0_0 (Memref.isWhole_whole _) ![0, 0, 64] inb_S1x2048x128_S1x2048x64_0_0_64
        (rest (grid0.coords t) (ms0_0 t) (ms0_1 t) (ms0_2 t) (ms0_4 t) (ms0_5 t) (hs0_5 t) scM0_0 scM0_1 scM0_2 (Memref.isWhole_whole _)) :=
      body_B (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _)
        (fun h => h0 ((hcond0_0 t).mp h)) ((hcond0_1 t).mpr (by omega))
    rw [e]
    unfold outAt; rw [hk]
    exact copy_sp (grid0.coords t) (ms0_0 t) (ms0_1 t) (ms0_2 t) (ms0_3 t) (ms0_4 t) (ms0_5 t) (hs0_5 t) scM0_0 (Memref.isWhole_whole _) scM0_1 scM0_2
      (Memref.isWhole_whole _) c Set.univ (iblk m c 0 t) (iblk m c 1 t) (iblk m c 2 t) (iblk m c 3 t) (iblk m c 4 t) _ _ (keysB (iblk m c 3 t)) (keysB_eq _)

/-- The body's triple at a point. -/
theorem vsound (c : Dev nD) (t : Fin cfg0.N) :
    vPre m c t ⊢ wp frame (wpE (defs₀ (F := F)) Variants.none c none) Set.univ (bodyAt0 t) (fun _ => vPost m c t) := by
  unfold vPre vPost
  simp only [vbefore0, vbefore1, vbefore2, vbefore3, vbefore4]
  rw [show (vdats m 0 c).Φ t.succ = (vdats m 0 c).Φ t.castSucc from rfl,
    show (vdats m 0 c).owesAt () t.succ = (vdats m 0 c).owesAt () t.castSucc from rfl,
    vafter0, vafter1, vafter2, vafter3, vafter4, vafter5]
  rw [show (vdats m 0 c).Φ t.castSucc = Pipeline.ΦA spec0 c from rfl, PhiA0_eq]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
  iapply (point_sp m c t)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  isplitl [HS2]; · iexact HS2
  unfold post
  iintro ⟨H0, H1, H2, H3, H4, H5, HS0, HS1, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  iexact H5

/-- The body table's row at a point is the body. -/
theorem vrow (t : Fin cfg0.N) :
    defs₀ (F := F) .tc cfg0.body (cfg0.bodyArgs t (cfg0.slots t)) = bodyAt0 t := by
  unfold defs₀; rw [Defs.onTc_tc]

/-- The body obligation at every point. -/
theorem vbody (c : Dev nD) : BodyObligation (vdats (F := F) m 0 c) (defs₀ (F := F)) Variants.none () Set.univ := fun t => by
  rw [bigSep_W0, bigSep_W0, vrow]
  exact triple_restated (vsound m c t) rfl .rfl fun _ => .rfl

set_option backward.isDefEq.respectTransparency.types false in
/-- The launch with these data. -/
theorem vrun : θ_run defs (onTc (τ := τ) (main (F := F))) (s₀ m ρ) (fun r => (Pipeline.FramePost cfgs (vdats m) 0 (V m)) r ∧ r.2.sem = fun _ => 0) :=
  Pipeline.θ_run_frame (Q' := _) cfgs (vdats m) (0 : Fin 1) launch0 defs₀ Variants.none m ρ main
    (hbody := fun c => (vbody m c).loose) (hshare := fun c => (vdats m 0 c).share_full fun _ => rfl)
    (howed := fun _ _ => rfl) (V := V m) (hmain := hmain m Variants.none) (hA := vA_eq m) (hΦ := fun _ _ => rfl)

/-- Distinct points write distinct blocks. -/
theorem vidx_inj : ∀ t t' : Fin cfg0.N, win0_5.index t = win0_5.index t' → t = t' :=
  (by decide +kernel : ∀ t t' : Fin grid0.N, win0_5.index t = win0_5.index t' → t = t')

/-- So their blocks are disjoint. -/
theorem vdisjoint : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne (vidx_inj t t' h)

/-- Every point writes back. -/
theorem vflush : ∀ t : Fin cfg0.N, (cfg0.win 5).flush t = true :=
  (by decide +kernel : ∀ t : Fin grid0.N, win0_5.flush t = true)

/-- The result after the run. -/
def result (c : Dev nD) : Vec F S8x2048x2048 .bf16 := (vdats m 0 c).arrAt 5 cfg0.N

/-- Block `t` of the result is what point `t` left. -/
theorem result_blk (c : Dev nD) (t : Fin cfg0.N) (y : S1x2048x256.Idx) :
    result m c (((cfg0.win 5).blk t).view.emb y) = outAt m c t y := by
  have h := (vdats m 0 c).read_blk_arrAt_eq_flushed 5 vdisjoint cfg0.N t t.isLt (vflush t)
  have h2 : (vdats m 0 c).flushed 5 t = (cfg0.win 5).cut (grid0.coords t) (outAt m c t) := by
    show (cfg0.win 5).cut (grid0.coords t) ((vdats m 0 c).after 5 t) = _
    rw [vafter5]
  have := congrFun (h.trans h2) y
  exact this

/-- The run: the result named, the arguments unchanged. -/
theorem run : θ_run defs (onTc (τ := τ) (main (F := F))) ⟨m, fun _ => 0, ρ⟩ fun r => ∀ c : Dev nD,
      r.2.mem ((c : Thread nD τ).loc main_v14) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h.1 c).1 5,
      ((h.1 c).1 2).trans (((vdats m 0 c).arrAt_in 2 rfl _).trans ((vA_eq m c 2).trans (V_main_arg0 m c))),
      ((h.1 c).1 3).trans (((vdats m 0 c).arrAt_in 3 rfl _).trans ((vA_eq m c 3).trans (V_main_arg1 m c))),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c)⟩)
    (vrun m ρ)

end Cert.KernelIdeal.Body
-- ==== Proof.KernelValue.lean ====
/- The kernel's result at an index: what its host operations prepare, which block a point reads, and the row formula. -/
module

public import proofs.«01_k».proof.Proof.TileValue
public import proofs.«01_k».proof.Proof.ValueRun
public import Idealize.ShloMosaic.Lib.StableHlo.ReadAt

@[expose] public section

set_option maxRecDepth 16384

noncomputable section

namespace Cert.KernelIdeal.Body

open Cert.KernelIdeal Cert.KernelIdeal.Gen Idealize.ShloMosaic Idealize.ShloMosaic.TcCoe Cert.Attn Finset

variable (m : (ℓ : Loc nD τ sig) → Buf (Elt Ideal) ℓ)

/-- The arguments as arrays. -/
abbrev A0 (c : Dev nD) : Vec Ideal S8x2048x2048 .fp8e4m3 := m ((c : Thread nD τ).loc main_arg0)
abbrev A1 (c : Dev nD) : Vec Ideal S8x2048x512 .fp8e4m3 := m ((c : Thread nD τ).loc main_arg1)
abbrev A2 (c : Dev nD) : Vec Ideal S8x2048x512 .fp8e4m3 := m ((c : Thread nD τ).loc main_arg2)
abbrev A3 (c : Dev nD) : Vec Ideal S32 .f32 := m ((c : Thread nD τ).loc main_arg3)
abbrev A4 (c : Dev nD) : Vec Ideal S8 .f32 := m ((c : Thread nD τ).loc main_arg4)
abbrev A5 (c : Dev nD) : Vec Ideal S8 .f32 := m ((c : Thread nD τ).loc main_arg5)

/-! ### What the host operations leave -/

/-- The scores' scale, spread over the columns. -/
theorem V8_apply (c : Dev nD) (g : Fin 8) (h : Fin 4) (r : Fin 128) :
    (V m c main_v8 : Vec Ideal S8x1x512 .f32) (ix3 g 0 (colOf h r)) = rowC (A3 m c) (A4 m c) g h := by
  unfold V
  after_reads_at
  unfold rowC
  refine congrArg (· * _) (congrArg (· * _) (congrArg (A3 m c) (congrArg ix1 (Fin.ext ?_))))
  show g.val * 4 + (128 * h.val + r.val) / 128 = g.val * 4 + h.val; omega

/-- The values' scale, spread over the columns. -/
theorem V12_apply (c : Dev nD) (g : Fin 8) (col : Fin 512) :
    (V m c main_v12 : Vec Ideal S8x1x512 .f32) (ix3 g 0 col) = Ideal.ofBits .f32 0x3B800000#32 * A5 m c (ix1 g) := by
  unfold V
  after_reads_at

/-- The values transposed. -/
theorem V13_apply (c : Dev nD) (b : Fin 8) (x : Fin 512) (k : Fin 2048) :
    (V m c main_v13 : Vec Ideal S8x512x2048 .fp8e4m3) (ix3 b x k) = A2 m c (ix3 b k x) := by
  unfold V
  after_reads_at

/-! ### The blocks of a point -/

theorem coords_eq : ∀ t : Fin cfg0.N, (grid0.coords t 0).val = t.val / 8 ∧ (grid0.coords t 1).val = t.val % 8 :=
  (by decide +kernel : ∀ t : Fin grid0.N, (grid0.coords t 0).val = t.val / 8 ∧ (grid0.coords t 1).val = t.val % 8)

theorem idx0 : ∀ t : Fin cfg0.N, win0_0.index t (0 : Fin 3) = t.val % 8 ∧ win0_0.index t (1 : Fin 3) = 0 ∧ win0_0.index t (2 : Fin 3) = 0 :=
  (by decide +kernel : ∀ t : Fin grid0.N, _)
theorem idx1 : ∀ t : Fin cfg0.N, win0_1.index t (0 : Fin 3) = t.val % 8 ∧ win0_1.index t (1 : Fin 3) = 0 ∧ win0_1.index t (2 : Fin 3) = 0 :=
  (by decide +kernel : ∀ t : Fin grid0.N, _)
theorem idx2 : ∀ t : Fin cfg0.N, win0_2.index t (0 : Fin 3) = t.val / 8 ∧ win0_2.index t (1 : Fin 3) = 0 ∧ win0_2.index t (2 : Fin 3) = t.val % 8 :=
  (by decide +kernel : ∀ t : Fin grid0.N, _)
theorem idx3 : ∀ t : Fin cfg0.N, win0_3.index t (0 : Fin 3) = t.val / 8 ∧ win0_3.index t (1 : Fin 3) = 0 ∧ win0_3.index t (2 : Fin 3) = t.val % 8 / 2 :=
  (by decide +kernel : ∀ t : Fin grid0.N, _)
theorem idx4 : ∀ t : Fin cfg0.N, win0_4.index t (0 : Fin 3) = t.val / 8 ∧ win0_4.index t (1 : Fin 3) = t.val % 8 / 2 ∧ win0_4.index t (2 : Fin 3) = 0 :=
  (by decide +kernel : ∀ t : Fin grid0.N, _)
theorem idx5 : ∀ t : Fin cfg0.N, win0_5.index t (0 : Fin 3) = t.val / 8 ∧ win0_5.index t (1 : Fin 3) = 0 ∧ win0_5.index t (2 : Fin 3) = t.val % 8 :=
  (by decide +kernel : ∀ t : Fin grid0.N, _)

/-- The batch and the group of a point. -/
def bt (t : Fin cfg0.N) : Fin 8 := ⟨t.val / 8, by have h : t.val < 64 := t.isLt; omega⟩
def gp (t : Fin cfg0.N) : Fin 8 := ⟨t.val % 8, Nat.mod_lt _ (by decide)⟩

theorem iblk0 (c : Dev nD) (t : Fin cfg0.N) (col : Fin 512) :
    (iblk m c 0 t : Vec Ideal S1x1x512 .f32) (ix3 0 0 col) = (V m c main_v8 : Vec Ideal S8x1x512 .f32) (ix3 (gp t) 0 col) := by
  obtain ⟨e0, e1, e2⟩ := idx0 t
  refine congrArg (V m c main_v8 : Vec Ideal S8x1x512 .f32) ?_
  funext a; apply Fin.ext
  match a with
  | ⟨0, _⟩ => show win0_0.index t (0 : Fin 3) * 1 + 1 * 0 = t.val % 8; omega
  | ⟨1, _⟩ => show win0_0.index t (1 : Fin 3) * 1 + 1 * 0 = 0; omega
  | ⟨2, _⟩ => show win0_0.index t (2 : Fin 3) * 512 + 1 * col.val = col.val; omega

theorem iblk1 (c : Dev nD) (t : Fin cfg0.N) (col : Fin 512) :
    (iblk m c 1 t : Vec Ideal S1x1x512 .f32) (ix3 0 0 col) = (V m c main_v12 : Vec Ideal S8x1x512 .f32) (ix3 (gp t) 0 col) := by
  obtain ⟨e0, e1, e2⟩ := idx1 t
  refine congrArg (V m c main_v12 : Vec Ideal S8x1x512 .f32) ?_
  funext a; apply Fin.ext
  match a with
  | ⟨0, _⟩ => show win0_1.index t (0 : Fin 3) * 1 + 1 * 0 = t.val % 8; omega
  | ⟨1, _⟩ => show win0_1.index t (1 : Fin 3) * 1 + 1 * 0 = 0; omega
  | ⟨2, _⟩ => show win0_1.index t (2 : Fin 3) * 512 + 1 * col.val = col.val; omega

theorem iblk2 (c : Dev nD) (t : Fin cfg0.N) (q : Fin 2048) (x : Fin 256) :
    (iblk m c 2 t : Vec Ideal S1x2048x256 .fp8e4m3) (ix3 0 q x) = A0 m c (ix3 (bt t) q ⟨(gp t).val * 256 + x.val, by omega⟩) := by
  obtain ⟨e0, e1, e2⟩ := idx2 t
  refine Eq.trans ?_ (congrFun (V_main_arg0 m c) _)
  refine congrArg (V m c main_arg0 : Vec Ideal S8x2048x2048 .fp8e4m3) ?_
  funext a; apply Fin.ext
  match a with
  | ⟨0, _⟩ => show win0_2.index t (0 : Fin 3) * 1 + 1 * 0 = t.val / 8; omega
  | ⟨1, _⟩ => show win0_2.index t (1 : Fin 3) * 2048 + 1 * q.val = q.val; omega
  | ⟨2, _⟩ => show win0_2.index t (2 : Fin 3) * 256 + 1 * x.val = t.val % 8 * 256 + x.val; omega

theorem iblk3 (c : Dev nD) (t : Fin cfg0.N) (k : Fin 2048) (x : Fin 128) :
    (iblk m c 3 t : Vec Ideal S1x2048x128 .fp8e4m3) (ix3 0 k x) = A1 m c (ix3 (bt t) k ⟨(gp t).val / 2 * 128 + x.val, by omega⟩) := by
  obtain ⟨e0, e1, e2⟩ := idx3 t
  refine Eq.trans ?_ (congrFun (V_main_arg1 m c) _)
  refine congrArg (V m c main_arg1 : Vec Ideal S8x2048x512 .fp8e4m3) ?_
  funext a; apply Fin.ext
  match a with
  | ⟨0, _⟩ => show win0_3.index t (0 : Fin 3) * 1 + 1 * 0 = t.val / 8; omega
  | ⟨1, _⟩ => show win0_3.index t (1 : Fin 3) * 2048 + 1 * k.val = k.val; omega
  | ⟨2, _⟩ => show win0_3.index t (2 : Fin 3) * 128 + 1 * x.val = t.val % 8 / 2 * 128 + x.val; omega

theorem iblk4 (c : Dev nD) (t : Fin cfg0.N) (x : Fin 128) (k : Fin 2048) :
    (iblk m c 4 t : Vec Ideal S1x128x2048 .fp8e4m3) (ix3 0 x k) = A2 m c (ix3 (bt t) k ⟨(gp t).val / 2 * 128 + x.val, by omega⟩) := by
  obtain ⟨e0, e1, e2⟩ := idx4 t
  refine Eq.trans ?_ (V13_apply m c (bt t) ⟨(gp t).val / 2 * 128 + x.val, by omega⟩ k)
  refine congrArg (V m c main_v13 : Vec Ideal S8x512x2048 .fp8e4m3) ?_
  funext a; apply Fin.ext
  match a with
  | ⟨0, _⟩ => show win0_4.index t (0 : Fin 3) * 1 + 1 * 0 = t.val / 8; omega
  | ⟨1, _⟩ => show win0_4.index t (1 : Fin 3) * 128 + 1 * x.val = t.val % 8 / 2 * 128 + x.val; omega
  | ⟨2, _⟩ => show win0_4.index t (2 : Fin 3) * 2048 + 1 * k.val = k.val; omega

theorem emb5 (t : Fin cfg0.N) (q : Fin 2048) (x : Fin 256) :
    (((cfg0.win 5).blk t).view.emb (ix3 0 q x : S1x2048x256.Idx) : S8x2048x2048.Idx) = ix3 (bt t) q ⟨(gp t).val * 256 + x.val, by omega⟩ := by
  obtain ⟨e0, e1, e2⟩ := idx5 t
  funext a; apply Fin.ext
  match a with
  | ⟨0, _⟩ => show win0_5.index t (0 : Fin 3) * 1 + 1 * 0 = t.val / 8; omega
  | ⟨1, _⟩ => show win0_5.index t (1 : Fin 3) * 2048 + 1 * q.val = q.val; omega
  | ⟨2, _⟩ => show win0_5.index t (2 : Fin 3) * 256 + 1 * x.val = t.val % 8 * 256 + x.val; omega

/-- The keys of a point are its group's. -/
theorem keysAt_apply (c : Dev nD) (t : Fin cfg0.N) (k : Fin 2048) (x : Fin 64) :
    keysAt m c t (ix2 k x) = A1 m c (ix3 (bt t) k ⟨(gp t).val * 64 + x.val, by omega⟩) := by
  unfold keysAt
  have hg : (gp t).val = t.val % 8 := rfl
  by_cases h : t.val % 2 = 0
  · rw [if_pos h, keysA_apply, iblk3]
    refine congrArg (A1 m c) (congrArg (ix3 (bt t) k) (Fin.ext ?_))
    show (gp t).val / 2 * 128 + x.val = (gp t).val * 64 + x.val; omega
  · rw [if_neg h, keysB_apply, iblk3]
    refine congrArg (A1 m c) (congrArg (ix3 (bt t) k) (Fin.ext ?_))
    show (gp t).val / 2 * 128 + (64 + x.val) = (gp t).val * 64 + x.val; omega

/-! ### The result -/

/-- What a point leaves is the attention of its batch and group. -/
theorem outAt_apply (c : Dev nD) (t : Fin cfg0.N) (q : Fin 2048) (x : Fin 256) :
    outAt m c t (ix3 0 q x) = attn (A0 m c) (A1 m c) (A2 m c) (A3 m c) (A4 m c) (A5 m c) (bt t) q (gp t) ⟨x.val / 64, by omega⟩ ⟨x.val % 64, by omega⟩ := by
  have hA : blkA (iblk m c 2 t) (keysAt m c t) ⟨x.val / 64, by omega⟩ q = rowA (A0 m c) (A1 m c) (bt t) (gp t) ⟨x.val / 64, by omega⟩ q := by
    funext k
    unfold blkA rowA
    refine Finset.sum_congr rfl fun z _ => congrArg₂ (· * ·) (keysAt_apply m c t (pos k) z) ((iblk2 m c t q _).trans ?_)
    refine congrArg (A0 m c) (congrArg (ix3 (bt t) q) (Fin.ext ?_))
    show (gp t).val * 256 + (64 * (x.val / 64) + z.val) = (gp t).val * 256 + x.val / 64 * 64 + z.val; omega
  have hV : blkV (iblk m c 4 t) (grid0.coords t) ⟨x.val % 64, by omega⟩ = rowV (A2 m c) (bt t) (gp t) ⟨x.val % 64, by omega⟩ := by
    funext k
    unfold blkV rowV
    refine (iblk4 m c t _ (pos k)).trans ?_
    refine congrArg (A2 m c) (congrArg (ix3 (bt t) (pos k)) (Fin.ext ?_))
    show (gp t).val / 2 * 128 + (64 * ((grid0.coords t 1).val % 2) + x.val % 64) = (gp t).val * 64 + x.val % 64
    have hg : (gp t).val = t.val % 8 := rfl
    have := (coords_eq t).2
    omega
  have hC : cvecOf (iblk m c 0 t) (ix2 0 (colOf ⟨x.val / 64, by omega⟩ ⟨q.val % 128, by omega⟩))
      = rowC (A3 m c) (A4 m c) (gp t) ⟨x.val / 64, by omega⟩ * (lg : EReal) := by
    rw [cvecOf_apply, iblk0, V8_apply]
  unfold outAt
  refine (outBlk_apply _ _ _ _ _ _ q x).trans ?_
  rw [hA, hV, hC, iblk1, V12_apply, row_eq _ _ _ _ _ 2048 (by omega) (by omega)]
  rfl

/-- The kernel's result at an index. -/
theorem result_apply (c : Dev nD) (b : Fin 8) (q x : Fin 2048) :
    result m c (ix3 b q x) = attn (A0 m c) (A1 m c) (A2 m c) (A3 m c) (A4 m c) (A5 m c) b q ⟨x.val / 256, by omega⟩ ⟨x.val / 64 % 4, by omega⟩ ⟨x.val % 64, by omega⟩ := by
  have h := result_blk m c (⟨8 * b.val + x.val / 256, by show _ < 64; omega⟩ : Fin cfg0.N) (ix3 0 q ⟨x.val % 256, by omega⟩)
  have hb : bt (⟨8 * b.val + x.val / 256, by show _ < 64; omega⟩ : Fin cfg0.N) = b := Fin.ext (by show (8 * b.val + x.val / 256) / 8 = b.val; omega)
  have hg : gp (⟨8 * b.val + x.val / 256, by show _ < 64; omega⟩ : Fin cfg0.N) = ⟨x.val / 256, by omega⟩ :=
    Fin.ext (by show (8 * b.val + x.val / 256) % 8 = x.val / 256; omega)
  rw [outAt_apply, hb, hg] at h
  have e1 : (⟨x.val % 256 / 64, by omega⟩ : Fin 4) = ⟨x.val / 64 % 4, by omega⟩ := Fin.ext (by show x.val % 256 / 64 = x.val / 64 % 4; omega)
  have e2 : (⟨x.val % 256 % 64, by omega⟩ : Fin 64) = ⟨x.val % 64, by omega⟩ := Fin.ext (by show x.val % 256 % 64 = x.val % 64; omega)
  simp only [e1, e2] at h
  refine Eq.trans (congrArg (result m c) ?_) h
  refine Eq.trans ?_ (emb5 _ q ⟨x.val % 256, by omega⟩).symm
  rw [hb]
  refine congrArg (ix3 b q) (Fin.ext ?_)
  show x.val = (8 * b.val + x.val / 256) % 8 * 256 + x.val % 256; omega

end Cert.KernelIdeal.Body
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.RefValue
public import proofs.«01_k».proof.Proof.KernelValue
public import Idealize.ShloMosaic.Adequacy
public import Idealize.ShloMosaic.Init

@[expose] public section

noncomputable section

namespace Cert.Proof

open Idealize.ShloMosaic Idealize.SL.Sem Cert.Kernel

/-- The kernel's result is the reference's function of the kernel's arguments. -/
theorem result_eq (m : (ℓ : Loc Cert.KernelIdeal.nD Cert.KernelIdeal.τ Cert.KernelIdeal.sig) → Buf (Elt Ideal) ℓ) (c : Dev Cert.KernelIdeal.nD) :
    Cert.KernelIdeal.Body.result m c
      = Cert.ReferenceIdeal.Value.G6 (Cert.KernelIdeal.Body.A0 m c) (Cert.KernelIdeal.Body.A1 m c) (Cert.KernelIdeal.Body.A2 m c)
          (Cert.KernelIdeal.Body.A3 m c) (Cert.KernelIdeal.Body.A4 m c) (Cert.KernelIdeal.Body.A5 m c) := by
  funext j
  obtain ⟨b, q, x, rfl⟩ : ∃ (b : Fin 8) (q x : Fin 2048), j = ix3 b q x := ⟨j 0, j 1, j 2, by funext a; fin_cases a <;> rfl⟩
  exact (Cert.KernelIdeal.Body.result_apply m c b q x).trans (Cert.ReferenceIdeal.Row.ref_apply _ _ _ _ _ _ b q x).symm

/-- Both programs end with the same result, over the extended reals. -/
theorem algebraic : Cert.algebraic_KernelIdeal_ReferenceIdeal := by
  intro m g m' g' _ h
  refine ⟨fun c => Cert.KernelIdeal.Body.result m c, Cert.KernelIdeal.Body.run m g, ?_⟩
  refine (θ_run _ _ _).mono (fun r hr c => ?_) (Cert.ReferenceIdeal.Value.run m' g')
  obtain ⟨h0, h1, h2, h3, h4, h5⟩ := h c
  obtain ⟨hv, ha⟩ := hr c
  refine ⟨hv.trans ?_, ha⟩
  rw [h0, h1, h2, h3, h4, h5]
  exact (result_eq m c).symm

/-- The certificate's claim. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.ReferenceIdeal.Gen.frame m ρ,
  IdealRules.named_const.statement Cert.KernelIdeal.κ "log2e" .f32 0x3FB8AA3B#32 (((Real.log 2)⁻¹ : ℝ) : EReal) rfl,
  algebraic⟩

end Cert.Proof

end
